-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x64 : Shape := ⟨2, ![1024, 64]⟩
abbrev S1024 : Shape := ⟨1, ![1024]⟩
abbrev S1048576x64 : Shape := ⟨2, ![1048576, 64]⟩
abbrev S_ : Shape := ⟨0, ![]⟩

class Facts : Prop where
  reducesTo_S1024_S_d0 : S1024.ReducesTo [0] S_
  h_S_ : 0 < S_.numel
  bcast_S_S1024 : S_.BroadcastsInDim S1024 (![] : Fin 0 → Fin S1024.rank)

variable [Facts]

def fn {F : FTy → Type} [FloatOps F] (main_arg0 : FVec F S1024x64 .f32) (main_arg1 : IVec S1024 32) (main_arg2 : FVec F S1048576x64 .f32) (main_arg3 : IVec S1024 32) (main_arg4 : IVec S1024 32) : IVec S_ 1 :=
  let main_v0 : IVec S1024 32 := iotaInDim S1024 32 0
  let main_v1 : IVec S1024 1 := cmpi .eq main_arg1 main_v0
  let main_c : IVec S_ 1 := constantI S_ 1 1#1
  let main_v2 : IVec S_ 1 := (fun x v => Host.reduce IntOp.andi x v reducesTo_S1024_S_d0 h_S_) main_v1 main_c
  let main_c_0 : IVec S_ 32 := constantI S_ 32 0#32
  let main_v3 : IVec S1024 32 := broadcastInDim S1024 ![] bcast_S_S1024 main_c_0
  let main_v4 : IVec S1024 1 := cmpi .sge main_arg3 main_v3
  let main_c_1 : IVec S_ 1 := constantI S_ 1 1#1
  let main_v5 : IVec S_ 1 := (fun x v => Host.reduce IntOp.andi x v reducesTo_S1024_S_d0 h_S_) main_v4 main_c_1
  let main_v6 : IVec S_ 1 := andi main_v2 main_v5
  let main_c_2 : IVec S_ 32 := constantI S_ 32 1024#32
  let main_v7 : IVec S1024 32 := broadcastInDim S1024 ![] bcast_S_S1024 main_c_2
  let main_v8 : IVec S1024 1 := cmpi .slt main_arg3 main_v7
  let main_c_3 : IVec S_ 1 := constantI S_ 1 1#1
  let main_v9 : IVec S_ 1 := (fun x v => Host.reduce IntOp.andi x v reducesTo_S1024_S_d0 h_S_) main_v8 main_c_3
  let main_v10 : IVec S_ 1 := andi main_v6 main_v9
  main_v10
-- ==== Kernel.lean ====
abbrev S1024x64 : Shape := ⟨2, ![1024, 64]⟩
abbrev S1024 : Shape := ⟨1, ![1024]⟩
abbrev S1048576x64 : Shape := ⟨2, ![1048576, 64]⟩
abbrev S64x1024 : Shape := ⟨2, ![64, 1024]⟩
abbrev S64x1048576 : Shape := ⟨2, ![64, 1048576]⟩
abbrev S8x128 : Shape := ⟨2, ![8, 128]⟩
abbrev S64x32768 : Shape := ⟨2, ![64, 32768]⟩
abbrev S1 : Shape := ⟨1, ![1]⟩
abbrev S64x128 : Shape := ⟨2, ![64, 128]⟩

abbrev nBuf : Space → Nat
  | .hbm => 14
  | .vmem => 9
  | .smem => 1
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S1048576x64, .f32⟩
  | .hbm, ⟨3, _⟩ => ⟨S1024, .i32⟩
  | .hbm, ⟨4, _⟩ => ⟨S64x1024, .f32⟩
  | .hbm, ⟨5, _⟩ => ⟨S64x1048576, .f32⟩
  | .hbm, ⟨6, _⟩ => ⟨S8x128, .i32⟩
  | .hbm, ⟨7, _⟩ => ⟨S8x128, .i32⟩
  | .hbm, ⟨8, _⟩ => ⟨S64x1048576, .f32⟩
  | .hbm, ⟨9, _⟩ => ⟨S8x128, .i32⟩
  | .hbm, ⟨10, _⟩ => ⟨S8x128, .i32⟩
  | .hbm, ⟨11, _⟩ => ⟨S1048576x64, .f32⟩
  | .hbm, ⟨12, _⟩ => ⟨S1024, .i32⟩
  | .hbm, ⟨13, _⟩ => ⟨S1024, .i32⟩
  | .local _ .vmem, ⟨0, _⟩ => ⟨S64x1024, .f32⟩
  | .local _ .vmem, ⟨1, _⟩ => ⟨S64x32768, .f32⟩
  | .local _ .vmem, ⟨2, _⟩ => ⟨S64x32768, .f32⟩
  | .local _ .vmem, ⟨3, _⟩ => ⟨S8x128, .i32⟩
  | .local _ .vmem, ⟨4, _⟩ => ⟨S8x128, .i32⟩
  | .local _ .vmem, ⟨5, _⟩ => ⟨S64x32768, .f32⟩
  | .local _ .vmem, ⟨6, _⟩ => ⟨S64x32768, .f32⟩
  | .local _ .vmem, ⟨7, _⟩ => ⟨S8x128, .i32⟩
  | .local _ .vmem, ⟨8, _⟩ => ⟨S8x128, .i32⟩
  | .local _ .smem, ⟨0, _⟩ => ⟨S1024, .i32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v5 : BitVec 32 := Scalar.muli arg0 c32_i32
  let c0_i32 : BitVec 32 := 0#32
  let v6 : BitVec 32 := Scalar.addi v5 c0_i32
  let v7 : Index := Scalar.indexCast v6
  ![v7.toNat]
def k0_mult1 (v8 : BitVec 32) : BitVec 32 :=
  let c0_i32_11 : BitVec 32 := 0#32
  let c0_i32_5 : BitVec 32 := 0#32
  let v10 : BitVec 1 := Scalar.cmpi .sgt v8 c0_i32_5
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c128_i32 : BitVec 32 := 128#32
  let c0_i32_7 : BitVec 32 := 0#32
  let v15 : BitVec 1 := Scalar.cmpi .sgt c128_i32 c0_i32_7
  let v16 : BitVec 32 := Scalar.extui v15
  let c0_i32_8 : BitVec 32 := 0#32
  let v17 : BitVec 1 := Scalar.cmpi .slt c128_i32 c0_i32_8
  let v18 : BitVec 32 := Scalar.extui v17
  let v19 : BitVec 32 := Scalar.subi v16 v18
  let v20 : BitVec 1 := Scalar.cmpi .ne v14 v19
  let v21 : BitVec 32 := Scalar.remsi v8 c128_i32
  let c0_i32_9 : BitVec 32 := 0#32
  let v22 : BitVec 1 := Scalar.cmpi .ne v21 c0_i32_9
  let v23 : BitVec 1 := Scalar.andi v20 v22
  let v9 : BitVec 32 := Scalar.divsi v8 c128_i32
  let c1_i32 : BitVec 32 := 1#32
  let v24 : BitVec 32 := Scalar.subi v9 c1_i32
  let v25 : BitVec 32 := Scalar.select v23 v24 v9
  let c128_i32_10 : BitVec 32 := 128#32
  let v26 : BitVec 32 := Scalar.muli v25 c128_i32_10
  let v27 : BitVec 32 := Scalar.addi c0_i32_11 v26
  v27

def k0_off2 (v8 : BitVec 32) : Fin 2 → Nat :=
  let c0_23 : Index := 0#32
  let c0_i32_11 : BitVec 32 := 0#32
  let c0_i32_5 : BitVec 32 := 0#32
  let v10 : BitVec 1 := Scalar.cmpi .sgt v8 c0_i32_5
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c128_i32 : BitVec 32 := 128#32
  let c0_i32_7 : BitVec 32 := 0#32
  let v15 : BitVec 1 := Scalar.cmpi .sgt c128_i32 c0_i32_7
  let v16 : BitVec 32 := Scalar.extui v15
  let c0_i32_8 : BitVec 32 := 0#32
  let v17 : BitVec 1 := Scalar.cmpi .slt c128_i32 c0_i32_8
  let v18 : BitVec 32 := Scalar.extui v17
  let v19 : BitVec 32 := Scalar.subi v16 v18
  let v20 : BitVec 1 := Scalar.cmpi .ne v14 v19
  let v21 : BitVec 32 := Scalar.remsi v8 c128_i32
  let c0_i32_9 : BitVec 32 := 0#32
  let v22 : BitVec 1 := Scalar.cmpi .ne v21 c0_i32_9
  let v23 : BitVec 1 := Scalar.andi v20 v22
  let v9 : BitVec 32 := Scalar.divsi v8 c128_i32
  let c1_i32 : BitVec 32 := 1#32
  let v24 : BitVec 32 := Scalar.subi v9 c1_i32
  let v25 : BitVec 32 := Scalar.select v23 v24 v9
  let c128_i32_10 : BitVec 32 := 128#32
  let v26 : BitVec 32 := Scalar.muli v25 c128_i32_10
  let v27 : BitVec 32 := Scalar.addi c0_i32_11 v26
  let v28 : BitVec 32 := v27
  let v51 : Index := Scalar.indexCast v28
  ![0, v51.toNat]

def k0_chk1 (v8 : BitVec 32) : Prop :=
  (128 ∣ (k0_mult1 v8).toNat) ∧
  (∀ a, (k0_off2 v8) a + S64x128.size a ≤ S64x32768.size a)
theorem k0_mult1_dvd : ∀ (v8 : BitVec 32) (k0_hw1 : k0_chk1 v8), 128 ∣ (k0_mult1 v8).toNat := fun v8 k0_hw1 => k0_hw1.1
theorem k0_off2_inb : ∀ (v8 : BitVec 32) (k0_hw1 : k0_chk1 v8), ∀ a, (k0_off2 v8) a + S64x128.size a ≤ S64x32768.size a := fun v8 k0_hw1 => k0_hw1.2

def k0_off3 (i : grid0.Coords) : Fin 1 → Nat :=
  let arg0 : BitVec 32 := BitVec.ofNat 32 (i 0).val
  let c32_i32_25 : BitVec 32 := 32#32
  let v61 : BitVec 32 := Scalar.muli arg0 c32_i32_25
  let c1_i32_26 : BitVec 32 := 1#32
  let v62 : BitVec 32 := Scalar.addi v61 c1_i32_26
  let v63 : Index := Scalar.indexCast v62
  ![v63.toNat]
def k0_mult2 (v64 : BitVec 32) : BitVec 32 :=
  let c1024_i32_35 : BitVec 32 := 1024#32
  let c0_i32_28 : BitVec 32 := 0#32
  let v66 : BitVec 1 := Scalar.cmpi .sgt v64 c0_i32_28
  let v67 : BitVec 32 := Scalar.extui v66
  let c0_i32_29 : BitVec 32 := 0#32
  let v68 : BitVec 1 := Scalar.cmpi .slt v64 c0_i32_29
  let v69 : BitVec 32 := Scalar.extui v68
  let v70 : BitVec 32 := Scalar.subi v67 v69
  let c128_i32_27 : BitVec 32 := 128#32
  let c0_i32_30 : BitVec 32 := 0#32
  let v71 : BitVec 1 := Scalar.cmpi .sgt c128_i32_27 c0_i32_30
  let v72 : BitVec 32 := Scalar.extui v71
  let c0_i32_31 : BitVec 32 := 0#32
  let v73 : BitVec 1 := Scalar.cmpi .slt c128_i32_27 c0_i32_31
  let v74 : BitVec 32 := Scalar.extui v73
  let v75 : BitVec 32 := Scalar.subi v72 v74
  let v76 : BitVec 1 := Scalar.cmpi .ne v70 v75
  let v77 : BitVec 32 := Scalar.remsi v64 c128_i32_27
  let c0_i32_32 : BitVec 32 := 0#32
  let v78 : BitVec 1 := Scalar.cmpi .ne v77 c0_i32_32
  let v79 : BitVec 1 := Scalar.andi v76 v78
  let v65 : BitVec 32 := Scalar.divsi v64 c128_i32_27
  let c1_i32_33 : BitVec 32 := 1#32
  let v80 : BitVec 32 := Scalar.subi v65 c1_i32_33
  let v81 : BitVec 32 := Scalar.select v79 v80 v65
  let c128_i32_34 : BitVec 32 := 128#32
  let v82 : BitVec 32 := Scalar.muli v81 c128_i32_34
  let v83 : BitVec 32 := Scalar.addi c1024_i32_35 v82
  v83

def k0_off4 (v64 : BitVec 32) : Fin 2 → Nat :=
  let c0_48 : Index := 0#32
  let c1024_i32_35 : BitVec 32 := 1024#32
  let c0_i32_28 : BitVec 32 := 0#32
  let v66 : BitVec 1 := Scalar.cmpi .sgt v64 c0_i32_28
  let v67 : BitVec 32 := Scalar.extui v66
  let c0_i32_29 : BitVec 32 := 0#32
  let v68 : BitVec 1 := Scalar.cmpi .slt v64 c0_i32_29
  let v69 : BitVec 32 := Scalar.extui v68
  let v70 : BitVec 32 := Scalar.subi v67 v69
  let c128_i32_27 : BitVec 32 := 128#32
  let c0_i32_30 : BitVec 32 := 0#32
  let v71 : BitVec 1 := Scalar.cmpi .sgt c128_i32_27 c0_i32_30
  let v72 : BitVec 32 := Scalar.extui v71
  let c0_i32_31 : BitVec 32 := 0#32
  let v73 : BitVec 1 := Scalar.cmpi .slt c128_i32_27 c0_i32_31
  let v74 : BitVec 32 := Scalar.extui v73
  let v75 : BitVec 32 := Scalar.subi v72 v74
  let v76 : BitVec 1 := Scalar.cmpi .ne v70 v75
  let v77 : BitVec 32 := Scalar.remsi v64 c128_i32_27
  let c0_i32_32 : BitVec 32 := 0#32
  let v78 : BitVec 1 := Scalar.cmpi .ne v77 c0_i32_32
  let v79 : BitVec 1 := Scalar.andi v76 v78
  let v65 : BitVec 32 := Scalar.divsi v64 c128_i32_27
  let c1_i32_33 : BitVec 32 := 1#32
  let v80 : BitVec 32 := Scalar.subi v65 c1_i32_33
  let v81 : BitVec 32 := Scalar.select v79 v80 v65
  let c128_i32_34 : BitVec 32 := 128#32
  let v82 : BitVec 32 := Scalar.muli v81 c128_i32_34
  let v83 : BitVec 32 := Scalar.addi c1024_i32_35 v82
  let v84 : BitVec 32 := v83
  let v107 : Index := Scalar.indexCast v84
  ![0, v107.toNat]

def k0_chk2 (v64 : BitVec 32) : Prop :=
  (128 ∣ (k0_mult2 v64).toNat) ∧
  (∀ a, (k0_off4 v64) a + S64x128.size a ≤ S64x32768.size a)
theorem k0_mult2_dvd : ∀ (v64 : BitVec 32) (k0_hw2 : k0_chk2 v64), 128 ∣ (k0_mult2 v64).toNat := fun v64 k0_hw2 => k0_hw2.1
theorem k0_off4_inb : ∀ (v64 : BitVec 32) (k0_hw2 : k0_chk2 v64), ∀ a, (k0_off4 v64) a + S64x128.size a ≤ S64x32768.size a := fun v64 k0_hw2 => k0_hw2.2

def k0_off5 (i : grid0.Coords) : Fin 1 → Nat :=
  let arg0 : BitVec 32 := BitVec.ofNat 32 (i 0).val
  let c32_i32_50 : BitVec 32 := 32#32
  let v117 : BitVec 32 := Scalar.muli arg0 c32_i32_50
  let c2_i32 : BitVec 32 := 2#32
  let v118 : BitVec 32 := Scalar.addi v117 c2_i32
  let v119 : Index := Scalar.indexCast v118
  ![v119.toNat]
def k0_mult3 (v120 : BitVec 32) : BitVec 32 :=
  let c2048_i32 : BitVec 32 := 2048#32
  let c0_i32_52 : BitVec 32 := 0#32
  let v122 : BitVec 1 := Scalar.cmpi .sgt v120 c0_i32_52
  let v123 : BitVec 32 := Scalar.extui v122
  let c0_i32_53 : BitVec 32 := 0#32
  let v124 : BitVec 1 := Scalar.cmpi .slt v120 c0_i32_53
  let v125 : BitVec 32 := Scalar.extui v124
  let v126 : BitVec 32 := Scalar.subi v123 v125
  let c128_i32_51 : BitVec 32 := 128#32
  let c0_i32_54 : BitVec 32 := 0#32
  let v127 : BitVec 1 := Scalar.cmpi .sgt c128_i32_51 c0_i32_54
  let v128 : BitVec 32 := Scalar.extui v127
  let c0_i32_55 : BitVec 32 := 0#32
  let v129 : BitVec 1 := Scalar.cmpi .slt c128_i32_51 c0_i32_55
  let v130 : BitVec 32 := Scalar.extui v129
  let v131 : BitVec 32 := Scalar.subi v128 v130
  let v132 : BitVec 1 := Scalar.cmpi .ne v126 v131
  let v133 : BitVec 32 := Scalar.remsi v120 c128_i32_51
  let c0_i32_56 : BitVec 32 := 0#32
  let v134 : BitVec 1 := Scalar.cmpi .ne v133 c0_i32_56
  let v135 : BitVec 1 := Scalar.andi v132 v134
  let v121 : BitVec 32 := Scalar.divsi v120 c128_i32_51
  let c1_i32_57 : BitVec 32 := 1#32
  let v136 : BitVec 32 := Scalar.subi v121 c1_i32_57
  let v137 : BitVec 32 := Scalar.select v135 v136 v121
  let c128_i32_58 : BitVec 32 := 128#32
  let v138 : BitVec 32 := Scalar.muli v137 c128_i32_58
  let v139 : BitVec 32 := Scalar.addi c2048_i32 v138
  v139

def k0_off6 (v120 : BitVec 32) : Fin 2 → Nat :=
  let c0_71 : Index := 0#32
  let c2048_i32 : BitVec 32 := 2048#32
  let c0_i32_52 : BitVec 32 := 0#32
  let v122 : BitVec 1 := Scalar.cmpi .sgt v120 c0_i32_52
  let v123 : BitVec 32 := Scalar.extui v122
  let c0_i32_53 : BitVec 32 := 0#32
  let v124 : BitVec 1 := Scalar.cmpi .slt v120 c0_i32_53
  let v125 : BitVec 32 := Scalar.extui v124
  let v126 : BitVec 32 := Scalar.subi v123 v125
  let c128_i32_51 : BitVec 32 := 128#32
  let c0_i32_54 : BitVec 32 := 0#32
  let v127 : BitVec 1 := Scalar.cmpi .sgt c128_i32_51 c0_i32_54
  let v128 : BitVec 32 := Scalar.extui v127
  let c0_i32_55 : BitVec 32 := 0#32
  let v129 : BitVec 1 := Scalar.cmpi .slt c128_i32_51 c0_i32_55
  let v130 : BitVec 32 := Scalar.extui v129
  let v131 : BitVec 32 := Scalar.subi v128 v130
  let v132 : BitVec 1 := Scalar.cmpi .ne v126 v131
  let v133 : BitVec 32 := Scalar.remsi v120 c128_i32_51
  let c0_i32_56 : BitVec 32 := 0#32
  let v134 : BitVec 1 := Scalar.cmpi .ne v133 c0_i32_56
  let v135 : BitVec 1 := Scalar.andi v132 v134
  let v121 : BitVec 32 := Scalar.divsi v120 c128_i32_51
  let c1_i32_57 : BitVec 32 := 1#32
  let v136 : BitVec 32 := Scalar.subi v121 c1_i32_57
  let v137 : BitVec 32 := Scalar.select v135 v136 v121
  let c128_i32_58 : BitVec 32 := 128#32
  let v138 : BitVec 32 := Scalar.muli v137 c128_i32_58
  let v139 : BitVec 32 := Scalar.addi c2048_i32 v138
  let v140 : BitVec 32 := v139
  let v163 : Index := Scalar.indexCast v140
  ![0, v163.toNat]

def k0_chk3 (v120 : BitVec 32) : Prop :=
  (128 ∣ (k0_mult3 v120).toNat) ∧
  (∀ a, (k0_off6 v120) a + S64x128.size a ≤ S64x32768.size a)
theorem k0_mult3_dvd : ∀ (v120 : BitVec 32) (k0_hw3 : k0_chk3 v120), 128 ∣ (k0_mult3 v120).toNat := fun v120 k0_hw3 => k0_hw3.1
theorem k0_off6_inb : ∀ (v120 : BitVec 32) (k0_hw3 : k0_chk3 v120), ∀ a, (k0_off6 v120) a + S64x128.size a ≤ S64x32768.size a := fun v120 k0_hw3 => k0_hw3.2

def k0_off7 (i : grid0.Coords) : Fin 1 → Nat :=
  let arg0 : BitVec 32 := BitVec.ofNat 32 (i 0).val
  let c32_i32_73 : BitVec 32 := 32#32
  let v173 : BitVec 32 := Scalar.muli arg0 c32_i32_73
  let c3_i32 : BitVec 32 := 3#32
  let v174 : BitVec 32 := Scalar.addi v173 c3_i32
  let v175 : Index := Scalar.indexCast v174
  ![v175.toNat]
def k0_mult4 (v176 : BitVec 32) : BitVec 32 :=
  let c3072_i32 : BitVec 32 := 3072#32
  let c0_i32_75 : BitVec 32 := 0#32
  let v178 : BitVec 1 := Scalar.cmpi .sgt v176 c0_i32_75
  let v179 : BitVec 32 := Scalar.extui v178
  let c0_i32_76 : BitVec 32 := 0#32
  let v180 : BitVec 1 := Scalar.cmpi .slt v176 c0_i32_76
  let v181 : BitVec 32 := Scalar.extui v180
  let v182 : BitVec 32 := Scalar.subi v179 v181
  let c128_i32_74 : BitVec 32 := 128#32
  let c0_i32_77 : BitVec 32 := 0#32
  let v183 : BitVec 1 := Scalar.cmpi .sgt c128_i32_74 c0_i32_77
  let v184 : BitVec 32 := Scalar.extui v183
  let c0_i32_78 : BitVec 32 := 0#32
  let v185 : BitVec 1 := Scalar.cmpi .slt c128_i32_74 c0_i32_78
  let v186 : BitVec 32 := Scalar.extui v185
  let v187 : BitVec 32 := Scalar.subi v184 v186
  let v188 : BitVec 1 := Scalar.cmpi .ne v182 v187
  let v189 : BitVec 32 := Scalar.remsi v176 c128_i32_74
  let c0_i32_79 : BitVec 32 := 0#32
  let v190 : BitVec 1 := Scalar.cmpi .ne v189 c0_i32_79
  let v191 : BitVec 1 := Scalar.andi v188 v190
  let v177 : BitVec 32 := Scalar.divsi v176 c128_i32_74
  let c1_i32_80 : BitVec 32 := 1#32
  let v192 : BitVec 32 := Scalar.subi v177 c1_i32_80
  let v193 : BitVec 32 := Scalar.select v191 v192 v177
  let c128_i32_81 : BitVec 32 := 128#32
  let v194 : BitVec 32 := Scalar.muli v193 c128_i32_81
  let v195 : BitVec 32 := Scalar.addi c3072_i32 v194
  v195

def k0_off8 (v176 : BitVec 32) : Fin 2 → Nat :=
  let c0_94 : Index := 0#32
  let c3072_i32 : BitVec 32 := 3072#32
  let c0_i32_75 : BitVec 32 := 0#32
  let v178 : BitVec 1 := Scalar.cmpi .sgt v176 c0_i32_75
  let v179 : BitVec 32 := Scalar.extui v178
  let c0_i32_76 : BitVec 32 := 0#32
  let v180 : BitVec 1 := Scalar.cmpi .slt v176 c0_i32_76
  let v181 : BitVec 32 := Scalar.extui v180
  let v182 : BitVec 32 := Scalar.subi v179 v181
  let c128_i32_74 : BitVec 32 := 128#32
  let c0_i32_77 : BitVec 32 := 0#32
  let v183 : BitVec 1 := Scalar.cmpi .sgt c128_i32_74 c0_i32_77
  let v184 : BitVec 32 := Scalar.extui v183
  let c0_i32_78 : BitVec 32 := 0#32
  let v185 : BitVec 1 := Scalar.cmpi .slt c128_i32_74 c0_i32_78
  let v186 : BitVec 32 := Scalar.extui v185
  let v187 : BitVec 32 := Scalar.subi v184 v186
  let v188 : BitVec 1 := Scalar.cmpi .ne v182 v187
  let v189 : BitVec 32 := Scalar.remsi v176 c128_i32_74
  let c0_i32_79 : BitVec 32 := 0#32
  let v190 : BitVec 1 := Scalar.cmpi .ne v189 c0_i32_79
  let v191 : BitVec 1 := Scalar.andi v188 v190
  let v177 : BitVec 32 := Scalar.divsi v176 c128_i32_74
  let c1_i32_80 : BitVec 32 := 1#32
  let v192 : BitVec 32 := Scalar.subi v177 c1_i32_80
  let v193 : BitVec 32 := Scalar.select v191 v192 v177
  let c128_i32_81 : BitVec 32 := 128#32
  let v194 : BitVec 32 := Scalar.muli v193 c128_i32_81
  let v195 : BitVec 32 := Scalar.addi c3072_i32 v194
  let v196 : BitVec 32 := v195
  let v219 : Index := Scalar.indexCast v196
  ![0, v219.toNat]

def k0_chk4 (v176 : BitVec 32) : Prop :=
  (128 ∣ (k0_mult4 v176).toNat) ∧
  (∀ a, (k0_off8 v176) a + S64x128.size a ≤ S64x32768.size a)
theorem k0_mult4_dvd : ∀ (v176 : BitVec 32) (k0_hw4 : k0_chk4 v176), 128 ∣ (k0_mult4 v176).toNat := fun v176 k0_hw4 => k0_hw4.1
theorem k0_off8_inb : ∀ (v176 : BitVec 32) (k0_hw4 : k0_chk4 v176), ∀ a, (k0_off8 v176) a + S64x128.size a ≤ S64x32768.size a := fun v176 k0_hw4 => k0_hw4.2

def k0_off9 (i : grid0.Coords) : Fin 1 → Nat :=
  let arg0 : BitVec 32 := BitVec.ofNat 32 (i 0).val
  let c32_i32_96 : BitVec 32 := 32#32
  let v229 : BitVec 32 := Scalar.muli arg0 c32_i32_96
  let c4_i32 : BitVec 32 := 4#32
  let v230 : BitVec 32 := Scalar.addi v229 c4_i32
  let v231 : Index := Scalar.indexCast v230
  ![v231.toNat]
def k0_mult5 (v232 : BitVec 32) : BitVec 32 :=
  let c4096_i32 : BitVec 32 := 4096#32
  let c0_i32_98 : BitVec 32 := 0#32
  let v234 : BitVec 1 := Scalar.cmpi .sgt v232 c0_i32_98
  let v235 : BitVec 32 := Scalar.extui v234
  let c0_i32_99 : BitVec 32 := 0#32
  let v236 : BitVec 1 := Scalar.cmpi .slt v232 c0_i32_99
  let v237 : BitVec 32 := Scalar.extui v236
  let v238 : BitVec 32 := Scalar.subi v235 v237
  let c128_i32_97 : BitVec 32 := 128#32
  let c0_i32_100 : BitVec 32 := 0#32
  let v239 : BitVec 1 := Scalar.cmpi .sgt c128_i32_97 c0_i32_100
  let v240 : BitVec 32 := Scalar.extui v239
  let c0_i32_101 : BitVec 32 := 0#32
  let v241 : BitVec 1 := Scalar.cmpi .slt c128_i32_97 c0_i32_101
  let v242 : BitVec 32 := Scalar.extui v241
  let v243 : BitVec 32 := Scalar.subi v240 v242
  let v244 : BitVec 1 := Scalar.cmpi .ne v238 v243
  let v245 : BitVec 32 := Scalar.remsi v232 c128_i32_97
  let c0_i32_102 : BitVec 32 := 0#32
  let v246 : BitVec 1 := Scalar.cmpi .ne v245 c0_i32_102
  let v247 : BitVec 1 := Scalar.andi v244 v246
  let v233 : BitVec 32 := Scalar.divsi v232 c128_i32_97
  let c1_i32_103 : BitVec 32 := 1#32
  let v248 : BitVec 32 := Scalar.subi v233 c1_i32_103
  let v249 : BitVec 32 := Scalar.select v247 v248 v233
  let c128_i32_104 : BitVec 32 := 128#32
  let v250 : BitVec 32 := Scalar.muli v249 c128_i32_104
  let v251 : BitVec 32 := Scalar.addi c4096_i32 v250
  v251

def k0_off10 (v232 : BitVec 32) : Fin 2 → Nat :=
  let c0_117 : Index := 0#32
  let c4096_i32 : BitVec 32 := 4096#32
  let c0_i32_98 : BitVec 32 := 0#32
  let v234 : BitVec 1 := Scalar.cmpi .sgt v232 c0_i32_98
  let v235 : BitVec 32 := Scalar.extui v234
  let c0_i32_99 : BitVec 32 := 0#32
  let v236 : BitVec 1 := Scalar.cmpi .slt v232 c0_i32_99
  let v237 : BitVec 32 := Scalar.extui v236
  let v238 : BitVec 32 := Scalar.subi v235 v237
  let c128_i32_97 : BitVec 32 := 128#32
  let c0_i32_100 : BitVec 32 := 0#32
  let v239 : BitVec 1 := Scalar.cmpi .sgt c128_i32_97 c0_i32_100
  let v240 : BitVec 32 := Scalar.extui v239
  let c0_i32_101 : BitVec 32 := 0#32
  let v241 : BitVec 1 := Scalar.cmpi .slt c128_i32_97 c0_i32_101
  let v242 : BitVec 32 := Scalar.extui v241
  let v243 : BitVec 32 := Scalar.subi v240 v242
  let v244 : BitVec 1 := Scalar.cmpi .ne v238 v243
  let v245 : BitVec 32 := Scalar.remsi v232 c128_i32_97
  let c0_i32_102 : BitVec 32 := 0#32
  let v246 : BitVec 1 := Scalar.cmpi .ne v245 c0_i32_102
  let v247 : BitVec 1 := Scalar.andi v244 v246
  let v233 : BitVec 32 := Scalar.divsi v232 c128_i32_97
  let c1_i32_103 : BitVec 32 := 1#32
  let v248 : BitVec 32 := Scalar.subi v233 c1_i32_103
  let v249 : BitVec 32 := Scalar.select v247 v248 v233
  let c128_i32_104 : BitVec 32 := 128#32
  let v250 : BitVec 32 := Scalar.muli v249 c128_i32_104
  let v251 : BitVec 32 := Scalar.addi c4096_i32 v250
  let v252 : BitVec 32 := v251
  let v275 : Index := Scalar.indexCast v252
  ![0, v275.toNat]

def k0_chk5 (v232 : BitVec 32) : Prop :=
  (128 ∣ (k0_mult5 v232).toNat) ∧
  (∀ a, (k0_off10 v232) a + S64x128.size a ≤ S64x32768.size a)
theorem k0_mult5_dvd : ∀ (v232 : BitVec 32) (k0_hw5 : k0_chk5 v232), 128 ∣ (k0_mult5 v232).toNat := fun v232 k0_hw5 => k0_hw5.1
theorem k0_off10_inb : ∀ (v232 : BitVec 32) (k0_hw5 : k0_chk5 v232), ∀ a, (k0_off10 v232) a + S64x128.size a ≤ S64x32768.size a := fun v232 k0_hw5 => k0_hw5.2

def k0_off11 (i : grid0.Coords) : Fin 1 → Nat :=
  let arg0 : BitVec 32 := BitVec.ofNat 32 (i 0).val
  let c32_i32_119 : BitVec 32 := 32#32
  let v285 : BitVec 32 := Scalar.muli arg0 c32_i32_119
  let c5_i32 : BitVec 32 := 5#32
  let v286 : BitVec 32 := Scalar.addi v285 c5_i32
  let v287 : Index := Scalar.indexCast v286
  ![v287.toNat]
def k0_mult6 (v288 : BitVec 32) : BitVec 32 :=
  let c5120_i32 : BitVec 32 := 5120#32
  let c0_i32_121 : BitVec 32 := 0#32
  let v290 : BitVec 1 := Scalar.cmpi .sgt v288 c0_i32_121
  let v291 : BitVec 32 := Scalar.extui v290
  let c0_i32_122 : BitVec 32 := 0#32
  let v292 : BitVec 1 := Scalar.cmpi .slt v288 c0_i32_122
  let v293 : BitVec 32 := Scalar.extui v292
  let v294 : BitVec 32 := Scalar.subi v291 v293
  let c128_i32_120 : BitVec 32 := 128#32
  let c0_i32_123 : BitVec 32 := 0#32
  let v295 : BitVec 1 := Scalar.cmpi .sgt c128_i32_120 c0_i32_123
  let v296 : BitVec 32 := Scalar.extui v295
  let c0_i32_124 : BitVec 32 := 0#32
  let v297 : BitVec 1 := Scalar.cmpi .slt c128_i32_120 c0_i32_124
  let v298 : BitVec 32 := Scalar.extui v297
  let v299 : BitVec 32 := Scalar.subi v296 v298
  let v300 : BitVec 1 := Scalar.cmpi .ne v294 v299
  let v301 : BitVec 32 := Scalar.remsi v288 c128_i32_120
  let c0_i32_125 : BitVec 32 := 0#32
  let v302 : BitVec 1 := Scalar.cmpi .ne v301 c0_i32_125
  let v303 : BitVec 1 := Scalar.andi v300 v302
  let v289 : BitVec 32 := Scalar.divsi v288 c128_i32_120
  let c1_i32_126 : BitVec 32 := 1#32
  let v304 : BitVec 32 := Scalar.subi v289 c1_i32_126
  let v305 : BitVec 32 := Scalar.select v303 v304 v289
  let c128_i32_127 : BitVec 32 := 128#32
  let v306 : BitVec 32 := Scalar.muli v305 c128_i32_127
  let v307 : BitVec 32 := Scalar.addi c5120_i32 v306
  v307

def k0_off12 (v288 : BitVec 32) : Fin 2 → Nat :=
  let c0_140 : Index := 0#32
  let c5120_i32 : BitVec 32 := 5120#32
  let c0_i32_121 : BitVec 32 := 0#32
  let v290 : BitVec 1 := Scalar.cmpi .sgt v288 c0_i32_121
  let v291 : BitVec 32 := Scalar.extui v290
  let c0_i32_122 : BitVec 32 := 0#32
  let v292 : BitVec 1 := Scalar.cmpi .slt v288 c0_i32_122
  let v293 : BitVec 32 := Scalar.extui v292
  let v294 : BitVec 32 := Scalar.subi v291 v293
  let c128_i32_120 : BitVec 32 := 128#32
  let c0_i32_123 : BitVec 32 := 0#32
  let v295 : BitVec 1 := Scalar.cmpi .sgt c128_i32_120 c0_i32_123
  let v296 : BitVec 32 := Scalar.extui v295
  let c0_i32_124 : BitVec 32 := 0#32
  let v297 : BitVec 1 := Scalar.cmpi .slt c128_i32_120 c0_i32_124
  let v298 : BitVec 32 := Scalar.extui v297
  let v299 : BitVec 32 := Scalar.subi v296 v298
  let v300 : BitVec 1 := Scalar.cmpi .ne v294 v299
  let v301 : BitVec 32 := Scalar.remsi v288 c128_i32_120
  let c0_i32_125 : BitVec 32 := 0#32
  let v302 : BitVec 1 := Scalar.cmpi .ne v301 c0_i32_125
  let v303 : BitVec 1 := Scalar.andi v300 v302
  let v289 : BitVec 32 := Scalar.divsi v288 c128_i32_120
  let c1_i32_126 : BitVec 32 := 1#32
  let v304 : BitVec 32 := Scalar.subi v289 c1_i32_126
  let v305 : BitVec 32 := Scalar.select v303 v304 v289
  let c128_i32_127 : BitVec 32 := 128#32
  let v306 : BitVec 32 := Scalar.muli v305 c128_i32_127
  let v307 : BitVec 32 := Scalar.addi c5120_i32 v306
  let v308 : BitVec 32 := v307
  let v331 : Index := Scalar.indexCast v308
  ![0, v331.toNat]

def k0_chk6 (v288 : BitVec 32) : Prop :=
  (128 ∣ (k0_mult6 v288).toNat) ∧
  (∀ a, (k0_off12 v288) a + S64x128.size a ≤ S64x32768.size a)
theorem k0_mult6_dvd : ∀ (v288 : BitVec 32) (k0_hw6 : k0_chk6 v288), 128 ∣ (k0_mult6 v288).toNat := fun v288 k0_hw6 => k0_hw6.1
theorem k0_off12_inb : ∀ (v288 : BitVec 32) (k0_hw6 : k0_chk6 v288), ∀ a, (k0_off12 v288) a + S64x128.size a ≤ S64x32768.size a := fun v288 k0_hw6 => k0_hw6.2

def k0_off13 (i : grid0.Coords) : Fin 1 → Nat :=
  let arg0 : BitVec 32 := BitVec.ofNat 32 (i 0).val
  let c32_i32_142 : BitVec 32 := 32#32
  let v341 : BitVec 32 := Scalar.muli arg0 c32_i32_142
  let c6_i32 : BitVec 32 := 6#32
  let v342 : BitVec 32 := Scalar.addi v341 c6_i32
  let v343 : Index := Scalar.indexCast v342
  ![v343.toNat]
def k0_mult7 (v344 : BitVec 32) : BitVec 32 :=
  let c6144_i32 : BitVec 32 := 6144#32
  let c0_i32_144 : BitVec 32 := 0#32
  let v346 : BitVec 1 := Scalar.cmpi .sgt v344 c0_i32_144
  let v347 : BitVec 32 := Scalar.extui v346
  let c0_i32_145 : BitVec 32 := 0#32
  let v348 : BitVec 1 := Scalar.cmpi .slt v344 c0_i32_145
  let v349 : BitVec 32 := Scalar.extui v348
  let v350 : BitVec 32 := Scalar.subi v347 v349
  let c128_i32_143 : BitVec 32 := 128#32
  let c0_i32_146 : BitVec 32 := 0#32
  let v351 : BitVec 1 := Scalar.cmpi .sgt c128_i32_143 c0_i32_146
  let v352 : BitVec 32 := Scalar.extui v351
  let c0_i32_147 : BitVec 32 := 0#32
  let v353 : BitVec 1 := Scalar.cmpi .slt c128_i32_143 c0_i32_147
  let v354 : BitVec 32 := Scalar.extui v353
  let v355 : BitVec 32 := Scalar.subi v352 v354
  let v356 : BitVec 1 := Scalar.cmpi .ne v350 v355
  let v357 : BitVec 32 := Scalar.remsi v344 c128_i32_143
  let c0_i32_148 : BitVec 32 := 0#32
  let v358 : BitVec 1 := Scalar.cmpi .ne v357 c0_i32_148
  let v359 : BitVec 1 := Scalar.andi v356 v358
  let v345 : BitVec 32 := Scalar.divsi v344 c128_i32_143
  let c1_i32_149 : BitVec 32 := 1#32
  let v360 : BitVec 32 := Scalar.subi v345 c1_i32_149
  let v361 : BitVec 32 := Scalar.select v359 v360 v345
  let c128_i32_150 : BitVec 32 := 128#32
  let v362 : BitVec 32 := Scalar.muli v361 c128_i32_150
  let v363 : BitVec 32 := Scalar.addi c6144_i32 v362
  v363

def k0_off14 (v344 : BitVec 32) : Fin 2 → Nat :=
  let c0_163 : Index := 0#32
  let c6144_i32 : BitVec 32 := 6144#32
  let c0_i32_144 : BitVec 32 := 0#32
  let v346 : BitVec 1 := Scalar.cmpi .sgt v344 c0_i32_144
  let v347 : BitVec 32 := Scalar.extui v346
  let c0_i32_145 : BitVec 32 := 0#32
  let v348 : BitVec 1 := Scalar.cmpi .slt v344 c0_i32_145
  let v349 : BitVec 32 := Scalar.extui v348
  let v350 : BitVec 32 := Scalar.subi v347 v349
  let c128_i32_143 : BitVec 32 := 128#32
  let c0_i32_146 : BitVec 32 := 0#32
  let v351 : BitVec 1 := Scalar.cmpi .sgt c128_i32_143 c0_i32_146
  let v352 : BitVec 32 := Scalar.extui v351
  let c0_i32_147 : BitVec 32 := 0#32
  let v353 : BitVec 1 := Scalar.cmpi .slt c128_i32_143 c0_i32_147
  let v354 : BitVec 32 := Scalar.extui v353
  let v355 : BitVec 32 := Scalar.subi v352 v354
  let v356 : BitVec 1 := Scalar.cmpi .ne v350 v355
  let v357 : BitVec 32 := Scalar.remsi v344 c128_i32_143
  let c0_i32_148 : BitVec 32 := 0#32
  let v358 : BitVec 1 := Scalar.cmpi .ne v357 c0_i32_148
  let v359 : BitVec 1 := Scalar.andi v356 v358
  let v345 : BitVec 32 := Scalar.divsi v344 c128_i32_143
  let c1_i32_149 : BitVec 32 := 1#32
  let v360 : BitVec 32 := Scalar.subi v345 c1_i32_149
  let v361 : BitVec 32 := Scalar.select v359 v360 v345
  let c128_i32_150 : BitVec 32 := 128#32
  let v362 : BitVec 32 := Scalar.muli v361 c128_i32_150
  let v363 : BitVec 32 := Scalar.addi c6144_i32 v362
  let v364 : BitVec 32 := v363
  let v387 : Index := Scalar.indexCast v364
  ![0, v387.toNat]

def k0_chk7 (v344 : BitVec 32) : Prop :=
  (128 ∣ (k0_mult7 v344).toNat) ∧
  (∀ a, (k0_off14 v344) a + S64x128.size a ≤ S64x32768.size a)
theorem k0_mult7_dvd : ∀ (v344 : BitVec 32) (k0_hw7 : k0_chk7 v344), 128 ∣ (k0_mult7 v344).toNat := fun v344 k0_hw7 => k0_hw7.1
theorem k0_off14_inb : ∀ (v344 : BitVec 32) (k0_hw7 : k0_chk7 v344), ∀ a, (k0_off14 v344) a + S64x128.size a ≤ S64x32768.size a := fun v344 k0_hw7 => k0_hw7.2

def k0_off15 (i : grid0.Coords) : Fin 1 → Nat :=
  let arg0 : BitVec 32 := BitVec.ofNat 32 (i 0).val
  let c32_i32_165 : BitVec 32 := 32#32
  let v397 : BitVec 32 := Scalar.muli arg0 c32_i32_165
  let c7_i32 : BitVec 32 := 7#32
  let v398 : BitVec 32 := Scalar.addi v397 c7_i32
  let v399 : Index := Scalar.indexCast v398
  ![v399.toNat]
def k0_mult8 (v400 : BitVec 32) : BitVec 32 :=
  let c7168_i32 : BitVec 32 := 7168#32
  let c0_i32_167 : BitVec 32 := 0#32
  let v402 : BitVec 1 := Scalar.cmpi .sgt v400 c0_i32_167
  let v403 : BitVec 32 := Scalar.extui v402
  let c0_i32_168 : BitVec 32 := 0#32
  let v404 : BitVec 1 := Scalar.cmpi .slt v400 c0_i32_168
  let v405 : BitVec 32 := Scalar.extui v404
  let v406 : BitVec 32 := Scalar.subi v403 v405
  let c128_i32_166 : BitVec 32 := 128#32
  let c0_i32_169 : BitVec 32 := 0#32
  let v407 : BitVec 1 := Scalar.cmpi .sgt c128_i32_166 c0_i32_169
  let v408 : BitVec 32 := Scalar.extui v407
  let c0_i32_170 : BitVec 32 := 0#32
  let v409 : BitVec 1 := Scalar.cmpi .slt c128_i32_166 c0_i32_170
  let v410 : BitVec 32 := Scalar.extui v409
  let v411 : BitVec 32 := Scalar.subi v408 v410
  let v412 : BitVec 1 := Scalar.cmpi .ne v406 v411
  let v413 : BitVec 32 := Scalar.remsi v400 c128_i32_166
  let c0_i32_171 : BitVec 32 := 0#32
  let v414 : BitVec 1 := Scalar.cmpi .ne v413 c0_i32_171
  let v415 : BitVec 1 := Scalar.andi v412 v414
  let v401 : BitVec 32 := Scalar.divsi v400 c128_i32_166
  let c1_i32_172 : BitVec 32 := 1#32
  let v416 : BitVec 32 := Scalar.subi v401 c1_i32_172
  let v417 : BitVec 32 := Scalar.select v415 v416 v401
  let c128_i32_173 : BitVec 32 := 128#32
  let v418 : BitVec 32 := Scalar.muli v417 c128_i32_173
  let v419 : BitVec 32 := Scalar.addi c7168_i32 v418
  v419

def k0_off16 (v400 : BitVec 32) : Fin 2 → Nat :=
  let c0_186 : Index := 0#32
  let c7168_i32 : BitVec 32 := 7168#32
  let c0_i32_167 : BitVec 32 := 0#32
  let v402 : BitVec 1 := Scalar.cmpi .sgt v400 c0_i32_167
  let v403 : BitVec 32 := Scalar.extui v402
  let c0_i32_168 : BitVec 32 := 0#32
  let v404 : BitVec 1 := Scalar.cmpi .slt v400 c0_i32_168
  let v405 : BitVec 32 := Scalar.extui v404
  let v406 : BitVec 32 := Scalar.subi v403 v405
  let c128_i32_166 : BitVec 32 := 128#32
  let c0_i32_169 : BitVec 32 := 0#32
  let v407 : BitVec 1 := Scalar.cmpi .sgt c128_i32_166 c0_i32_169
  let v408 : BitVec 32 := Scalar.extui v407
  let c0_i32_170 : BitVec 32 := 0#32
  let v409 : BitVec 1 := Scalar.cmpi .slt c128_i32_166 c0_i32_170
  let v410 : BitVec 32 := Scalar.extui v409
  let v411 : BitVec 32 := Scalar.subi v408 v410
  let v412 : BitVec 1 := Scalar.cmpi .ne v406 v411
  let v413 : BitVec 32 := Scalar.remsi v400 c128_i32_166
  let c0_i32_171 : BitVec 32 := 0#32
  let v414 : BitVec 1 := Scalar.cmpi .ne v413 c0_i32_171
  let v415 : BitVec 1 := Scalar.andi v412 v414
  let v401 : BitVec 32 := Scalar.divsi v400 c128_i32_166
  let c1_i32_172 : BitVec 32 := 1#32
  let v416 : BitVec 32 := Scalar.subi v401 c1_i32_172
  let v417 : BitVec 32 := Scalar.select v415 v416 v401
  let c128_i32_173 : BitVec 32 := 128#32
  let v418 : BitVec 32 := Scalar.muli v417 c128_i32_173
  let v419 : BitVec 32 := Scalar.addi c7168_i32 v418
  let v420 : BitVec 32 := v419
  let v443 : Index := Scalar.indexCast v420
  ![0, v443.toNat]

def k0_chk8 (v400 : BitVec 32) : Prop :=
  (128 ∣ (k0_mult8 v400).toNat) ∧
  (∀ a, (k0_off16 v400) a + S64x128.size a ≤ S64x32768.size a)
theorem k0_mult8_dvd : ∀ (v400 : BitVec 32) (k0_hw8 : k0_chk8 v400), 128 ∣ (k0_mult8 v400).toNat := fun v400 k0_hw8 => k0_hw8.1
theorem k0_off16_inb : ∀ (v400 : BitVec 32) (k0_hw8 : k0_chk8 v400), ∀ a, (k0_off16 v400) a + S64x128.size a ≤ S64x32768.size a := fun v400 k0_hw8 => k0_hw8.2

def k0_off17 (i : grid0.Coords) : Fin 1 → Nat :=
  let arg0 : BitVec 32 := BitVec.ofNat 32 (i 0).val
  let c32_i32_188 : BitVec 32 := 32#32
  let v453 : BitVec 32 := Scalar.muli arg0 c32_i32_188
  let c8_i32 : BitVec 32 := 8#32
  let v454 : BitVec 32 := Scalar.addi v453 c8_i32
  let v455 : Index := Scalar.indexCast v454
  ![v455.toNat]
def k0_mult9 (v456 : BitVec 32) : BitVec 32 :=
  let c8192_i32 : BitVec 32 := 8192#32
  let c0_i32_190 : BitVec 32 := 0#32
  let v458 : BitVec 1 := Scalar.cmpi .sgt v456 c0_i32_190
  let v459 : BitVec 32 := Scalar.extui v458
  let c0_i32_191 : BitVec 32 := 0#32
  let v460 : BitVec 1 := Scalar.cmpi .slt v456 c0_i32_191
  let v461 : BitVec 32 := Scalar.extui v460
  let v462 : BitVec 32 := Scalar.subi v459 v461
  let c128_i32_189 : BitVec 32 := 128#32
  let c0_i32_192 : BitVec 32 := 0#32
  let v463 : BitVec 1 := Scalar.cmpi .sgt c128_i32_189 c0_i32_192
  let v464 : BitVec 32 := Scalar.extui v463
  let c0_i32_193 : BitVec 32 := 0#32
  let v465 : BitVec 1 := Scalar.cmpi .slt c128_i32_189 c0_i32_193
  let v466 : BitVec 32 := Scalar.extui v465
  let v467 : BitVec 32 := Scalar.subi v464 v466
  let v468 : BitVec 1 := Scalar.cmpi .ne v462 v467
  let v469 : BitVec 32 := Scalar.remsi v456 c128_i32_189
  let c0_i32_194 : BitVec 32 := 0#32
  let v470 : BitVec 1 := Scalar.cmpi .ne v469 c0_i32_194
  let v471 : BitVec 1 := Scalar.andi v468 v470
  let v457 : BitVec 32 := Scalar.divsi v456 c128_i32_189
  let c1_i32_195 : BitVec 32 := 1#32
  let v472 : BitVec 32 := Scalar.subi v457 c1_i32_195
  let v473 : BitVec 32 := Scalar.select v471 v472 v457
  let c128_i32_196 : BitVec 32 := 128#32
  let v474 : BitVec 32 := Scalar.muli v473 c128_i32_196
  let v475 : BitVec 32 := Scalar.addi c8192_i32 v474
  v475

def k0_off18 (v456 : BitVec 32) : Fin 2 → Nat :=
  let c0_209 : Index := 0#32
  let c8192_i32 : BitVec 32 := 8192#32
  let c0_i32_190 : BitVec 32 := 0#32
  let v458 : BitVec 1 := Scalar.cmpi .sgt v456 c0_i32_190
  let v459 : BitVec 32 := Scalar.extui v458
  let c0_i32_191 : BitVec 32 := 0#32
  let v460 : BitVec 1 := Scalar.cmpi .slt v456 c0_i32_191
  let v461 : BitVec 32 := Scalar.extui v460
  let v462 : BitVec 32 := Scalar.subi v459 v461
  let c128_i32_189 : BitVec 32 := 128#32
  let c0_i32_192 : BitVec 32 := 0#32
  let v463 : BitVec 1 := Scalar.cmpi .sgt c128_i32_189 c0_i32_192
  let v464 : BitVec 32 := Scalar.extui v463
  let c0_i32_193 : BitVec 32 := 0#32
  let v465 : BitVec 1 := Scalar.cmpi .slt c128_i32_189 c0_i32_193
  let v466 : BitVec 32 := Scalar.extui v465
  let v467 : BitVec 32 := Scalar.subi v464 v466
  let v468 : BitVec 1 := Scalar.cmpi .ne v462 v467
  let v469 : BitVec 32 := Scalar.remsi v456 c128_i32_189
  let c0_i32_194 : BitVec 32 := 0#32
  let v470 : BitVec 1 := Scalar.cmpi .ne v469 c0_i32_194
  let v471 : BitVec 1 := Scalar.andi v468 v470
  let v457 : BitVec 32 := Scalar.divsi v456 c128_i32_189
  let c1_i32_195 : BitVec 32 := 1#32
  let v472 : BitVec 32 := Scalar.subi v457 c1_i32_195
  let v473 : BitVec 32 := Scalar.select v471 v472 v457
  let c128_i32_196 : BitVec 32 := 128#32
  let v474 : BitVec 32 := Scalar.muli v473 c128_i32_196
  let v475 : BitVec 32 := Scalar.addi c8192_i32 v474
  let v476 : BitVec 32 := v475
  let v499 : Index := Scalar.indexCast v476
  ![0, v499.toNat]

def k0_chk9 (v456 : BitVec 32) : Prop :=
  (128 ∣ (k0_mult9 v456).toNat) ∧
  (∀ a, (k0_off18 v456) a + S64x128.size a ≤ S64x32768.size a)
theorem k0_mult9_dvd : ∀ (v456 : BitVec 32) (k0_hw9 : k0_chk9 v456), 128 ∣ (k0_mult9 v456).toNat := fun v456 k0_hw9 => k0_hw9.1
theorem k0_off18_inb : ∀ (v456 : BitVec 32) (k0_hw9 : k0_chk9 v456), ∀ a, (k0_off18 v456) a + S64x128.size a ≤ S64x32768.size a := fun v456 k0_hw9 => k0_hw9.2

def k0_off19 (i : grid0.Coords) : Fin 1 → Nat :=
  let arg0 : BitVec 32 := BitVec.ofNat 32 (i 0).val
  let c32_i32_211 : BitVec 32 := 32#32
  let v509 : BitVec 32 := Scalar.muli arg0 c32_i32_211
  let c9_i32 : BitVec 32 := 9#32
  let v510 : BitVec 32 := Scalar.addi v509 c9_i32
  let v511 : Index := Scalar.indexCast v510
  ![v511.toNat]
def k0_mult10 (v512 : BitVec 32) : BitVec 32 :=
  let c9216_i32 : BitVec 32 := 9216#32
  let c0_i32_213 : BitVec 32 := 0#32
  let v514 : BitVec 1 := Scalar.cmpi .sgt v512 c0_i32_213
  let v515 : BitVec 32 := Scalar.extui v514
  let c0_i32_214 : BitVec 32 := 0#32
  let v516 : BitVec 1 := Scalar.cmpi .slt v512 c0_i32_214
  let v517 : BitVec 32 := Scalar.extui v516
  let v518 : BitVec 32 := Scalar.subi v515 v517
  let c128_i32_212 : BitVec 32 := 128#32
  let c0_i32_215 : BitVec 32 := 0#32
  let v519 : BitVec 1 := Scalar.cmpi .sgt c128_i32_212 c0_i32_215
  let v520 : BitVec 32 := Scalar.extui v519
  let c0_i32_216 : BitVec 32 := 0#32
  let v521 : BitVec 1 := Scalar.cmpi .slt c128_i32_212 c0_i32_216
  let v522 : BitVec 32 := Scalar.extui v521
  let v523 : BitVec 32 := Scalar.subi v520 v522
  let v524 : BitVec 1 := Scalar.cmpi .ne v518 v523
  let v525 : BitVec 32 := Scalar.remsi v512 c128_i32_212
  let c0_i32_217 : BitVec 32 := 0#32
  let v526 : BitVec 1 := Scalar.cmpi .ne v525 c0_i32_217
  let v527 : BitVec 1 := Scalar.andi v524 v526
  let v513 : BitVec 32 := Scalar.divsi v512 c128_i32_212
  let c1_i32_218 : BitVec 32 := 1#32
  let v528 : BitVec 32 := Scalar.subi v513 c1_i32_218
  let v529 : BitVec 32 := Scalar.select v527 v528 v513
  let c128_i32_219 : BitVec 32 := 128#32
  let v530 : BitVec 32 := Scalar.muli v529 c128_i32_219
  let v531 : BitVec 32 := Scalar.addi c9216_i32 v530
  v531

def k0_off20 (v512 : BitVec 32) : Fin 2 → Nat :=
  let c0_232 : Index := 0#32
  let c9216_i32 : BitVec 32 := 9216#32
  let c0_i32_213 : BitVec 32 := 0#32
  let v514 : BitVec 1 := Scalar.cmpi .sgt v512 c0_i32_213
  let v515 : BitVec 32 := Scalar.extui v514
  let c0_i32_214 : BitVec 32 := 0#32
  let v516 : BitVec 1 := Scalar.cmpi .slt v512 c0_i32_214
  let v517 : BitVec 32 := Scalar.extui v516
  let v518 : BitVec 32 := Scalar.subi v515 v517
  let c128_i32_212 : BitVec 32 := 128#32
  let c0_i32_215 : BitVec 32 := 0#32
  let v519 : BitVec 1 := Scalar.cmpi .sgt c128_i32_212 c0_i32_215
  let v520 : BitVec 32 := Scalar.extui v519
  let c0_i32_216 : BitVec 32 := 0#32
  let v521 : BitVec 1 := Scalar.cmpi .slt c128_i32_212 c0_i32_216
  let v522 : BitVec 32 := Scalar.extui v521
  let v523 : BitVec 32 := Scalar.subi v520 v522
  let v524 : BitVec 1 := Scalar.cmpi .ne v518 v523
  let v525 : BitVec 32 := Scalar.remsi v512 c128_i32_212
  let c0_i32_217 : BitVec 32 := 0#32
  let v526 : BitVec 1 := Scalar.cmpi .ne v525 c0_i32_217
  let v527 : BitVec 1 := Scalar.andi v524 v526
  let v513 : BitVec 32 := Scalar.divsi v512 c128_i32_212
  let c1_i32_218 : BitVec 32 := 1#32
  let v528 : BitVec 32 := Scalar.subi v513 c1_i32_218
  let v529 : BitVec 32 := Scalar.select v527 v528 v513
  let c128_i32_219 : BitVec 32 := 128#32
  let v530 : BitVec 32 := Scalar.muli v529 c128_i32_219
  let v531 : BitVec 32 := Scalar.addi c9216_i32 v530
  let v532 : BitVec 32 := v531
  let v555 : Index := Scalar.indexCast v532
  ![0, v555.toNat]

def k0_chk10 (v512 : BitVec 32) : Prop :=
  (128 ∣ (k0_mult10 v512).toNat) ∧
  (∀ a, (k0_off20 v512) a + S64x128.size a ≤ S64x32768.size a)
theorem k0_mult10_dvd : ∀ (v512 : BitVec 32) (k0_hw10 : k0_chk10 v512), 128 ∣ (k0_mult10 v512).toNat := fun v512 k0_hw10 => k0_hw10.1
theorem k0_off20_inb : ∀ (v512 : BitVec 32) (k0_hw10 : k0_chk10 v512), ∀ a, (k0_off20 v512) a + S64x128.size a ≤ S64x32768.size a := fun v512 k0_hw10 => k0_hw10.2

def k0_off21 (i : grid0.Coords) : Fin 1 → Nat :=
  let arg0 : BitVec 32 := BitVec.ofNat 32 (i 0).val
  let c32_i32_234 : BitVec 32 := 32#32
  let v565 : BitVec 32 := Scalar.muli arg0 c32_i32_234
  let c10_i32 : BitVec 32 := 10#32
  let v566 : BitVec 32 := Scalar.addi v565 c10_i32
  let v567 : Index := Scalar.indexCast v566
  ![v567.toNat]
def k0_mult11 (v568 : BitVec 32) : BitVec 32 :=
  let c10240_i32 : BitVec 32 := 10240#32
  let c0_i32_236 : BitVec 32 := 0#32
  let v570 : BitVec 1 := Scalar.cmpi .sgt v568 c0_i32_236
  let v571 : BitVec 32 := Scalar.extui v570
  let c0_i32_237 : BitVec 32 := 0#32
  let v572 : BitVec 1 := Scalar.cmpi .slt v568 c0_i32_237
  let v573 : BitVec 32 := Scalar.extui v572
  let v574 : BitVec 32 := Scalar.subi v571 v573
  let c128_i32_235 : BitVec 32 := 128#32
  let c0_i32_238 : BitVec 32 := 0#32
  let v575 : BitVec 1 := Scalar.cmpi .sgt c128_i32_235 c0_i32_238
  let v576 : BitVec 32 := Scalar.extui v575
  let c0_i32_239 : BitVec 32 := 0#32
  let v577 : BitVec 1 := Scalar.cmpi .slt c128_i32_235 c0_i32_239
  let v578 : BitVec 32 := Scalar.extui v577
  let v579 : BitVec 32 := Scalar.subi v576 v578
  let v580 : BitVec 1 := Scalar.cmpi .ne v574 v579
  let v581 : BitVec 32 := Scalar.remsi v568 c128_i32_235
  let c0_i32_240 : BitVec 32 := 0#32
  let v582 : BitVec 1 := Scalar.cmpi .ne v581 c0_i32_240
  let v583 : BitVec 1 := Scalar.andi v580 v582
  let v569 : BitVec 32 := Scalar.divsi v568 c128_i32_235
  let c1_i32_241 : BitVec 32 := 1#32
  let v584 : BitVec 32 := Scalar.subi v569 c1_i32_241
  let v585 : BitVec 32 := Scalar.select v583 v584 v569
  let c128_i32_242 : BitVec 32 := 128#32
  let v586 : BitVec 32 := Scalar.muli v585 c128_i32_242
  let v587 : BitVec 32 := Scalar.addi c10240_i32 v586
  v587

def k0_off22 (v568 : BitVec 32) : Fin 2 → Nat :=
  let c0_255 : Index := 0#32
  let c10240_i32 : BitVec 32 := 10240#32
  let c0_i32_236 : BitVec 32 := 0#32
  let v570 : BitVec 1 := Scalar.cmpi .sgt v568 c0_i32_236
  let v571 : BitVec 32 := Scalar.extui v570
  let c0_i32_237 : BitVec 32 := 0#32
  let v572 : BitVec 1 := Scalar.cmpi .slt v568 c0_i32_237
  let v573 : BitVec 32 := Scalar.extui v572
  let v574 : BitVec 32 := Scalar.subi v571 v573
  let c128_i32_235 : BitVec 32 := 128#32
  let c0_i32_238 : BitVec 32 := 0#32
  let v575 : BitVec 1 := Scalar.cmpi .sgt c128_i32_235 c0_i32_238
  let v576 : BitVec 32 := Scalar.extui v575
  let c0_i32_239 : BitVec 32 := 0#32
  let v577 : BitVec 1 := Scalar.cmpi .slt c128_i32_235 c0_i32_239
  let v578 : BitVec 32 := Scalar.extui v577
  let v579 : BitVec 32 := Scalar.subi v576 v578
  let v580 : BitVec 1 := Scalar.cmpi .ne v574 v579
  let v581 : BitVec 32 := Scalar.remsi v568 c128_i32_235
  let c0_i32_240 : BitVec 32 := 0#32
  let v582 : BitVec 1 := Scalar.cmpi .ne v581 c0_i32_240
  let v583 : BitVec 1 := Scalar.andi v580 v582
  let v569 : BitVec 32 := Scalar.divsi v568 c128_i32_235
  let c1_i32_241 : BitVec 32 := 1#32
  let v584 : BitVec 32 := Scalar.subi v569 c1_i32_241
  let v585 : BitVec 32 := Scalar.select v583 v584 v569
  let c128_i32_242 : BitVec 32 := 128#32
  let v586 : BitVec 32 := Scalar.muli v585 c128_i32_242
  let v587 : BitVec 32 := Scalar.addi c10240_i32 v586
  let v588 : BitVec 32 := v587
  let v611 : Index := Scalar.indexCast v588
  ![0, v611.toNat]

def k0_chk11 (v568 : BitVec 32) : Prop :=
  (128 ∣ (k0_mult11 v568).toNat) ∧
  (∀ a, (k0_off22 v568) a + S64x128.size a ≤ S64x32768.size a)
theorem k0_mult11_dvd : ∀ (v568 : BitVec 32) (k0_hw11 : k0_chk11 v568), 128 ∣ (k0_mult11 v568).toNat := fun v568 k0_hw11 => k0_hw11.1
theorem k0_off22_inb : ∀ (v568 : BitVec 32) (k0_hw11 : k0_chk11 v568), ∀ a, (k0_off22 v568) a + S64x128.size a ≤ S64x32768.size a := fun v568 k0_hw11 => k0_hw11.2

def k0_off23 (i : grid0.Coords) : Fin 1 → Nat :=
  let arg0 : BitVec 32 := BitVec.ofNat 32 (i 0).val
  let c32_i32_257 : BitVec 32 := 32#32
  let v621 : BitVec 32 := Scalar.muli arg0 c32_i32_257
  let c11_i32 : BitVec 32 := 11#32
  let v622 : BitVec 32 := Scalar.addi v621 c11_i32
  let v623 : Index := Scalar.indexCast v622
  ![v623.toNat]
def k0_mult12 (v624 : BitVec 32) : BitVec 32 :=
  let c11264_i32 : BitVec 32 := 11264#32
  let c0_i32_259 : BitVec 32 := 0#32
  let v626 : BitVec 1 := Scalar.cmpi .sgt v624 c0_i32_259
  let v627 : BitVec 32 := Scalar.extui v626
  let c0_i32_260 : BitVec 32 := 0#32
  let v628 : BitVec 1 := Scalar.cmpi .slt v624 c0_i32_260
  let v629 : BitVec 32 := Scalar.extui v628
  let v630 : BitVec 32 := Scalar.subi v627 v629
  let c128_i32_258 : BitVec 32 := 128#32
  let c0_i32_261 : BitVec 32 := 0#32
  let v631 : BitVec 1 := Scalar.cmpi .sgt c128_i32_258 c0_i32_261
  let v632 : BitVec 32 := Scalar.extui v631
  let c0_i32_262 : BitVec 32 := 0#32
  let v633 : BitVec 1 := Scalar.cmpi .slt c128_i32_258 c0_i32_262
  let v634 : BitVec 32 := Scalar.extui v633
  let v635 : BitVec 32 := Scalar.subi v632 v634
  let v636 : BitVec 1 := Scalar.cmpi .ne v630 v635
  let v637 : BitVec 32 := Scalar.remsi v624 c128_i32_258
  let c0_i32_263 : BitVec 32 := 0#32
  let v638 : BitVec 1 := Scalar.cmpi .ne v637 c0_i32_263
  let v639 : BitVec 1 := Scalar.andi v636 v638
  let v625 : BitVec 32 := Scalar.divsi v624 c128_i32_258
  let c1_i32_264 : BitVec 32 := 1#32
  let v640 : BitVec 32 := Scalar.subi v625 c1_i32_264
  let v641 : BitVec 32 := Scalar.select v639 v640 v625
  let c128_i32_265 : BitVec 32 := 128#32
  let v642 : BitVec 32 := Scalar.muli v641 c128_i32_265
  let v643 : BitVec 32 := Scalar.addi c11264_i32 v642
  v643

def k0_off24 (v624 : BitVec 32) : Fin 2 → Nat :=
  let c0_278 : Index := 0#32
  let c11264_i32 : BitVec 32 := 11264#32
  let c0_i32_259 : BitVec 32 := 0#32
  let v626 : BitVec 1 := Scalar.cmpi .sgt v624 c0_i32_259
  let v627 : BitVec 32 := Scalar.extui v626
  let c0_i32_260 : BitVec 32 := 0#32
  let v628 : BitVec 1 := Scalar.cmpi .slt v624 c0_i32_260
  let v629 : BitVec 32 := Scalar.extui v628
  let v630 : BitVec 32 := Scalar.subi v627 v629
  let c128_i32_258 : BitVec 32 := 128#32
  let c0_i32_261 : BitVec 32 := 0#32
  let v631 : BitVec 1 := Scalar.cmpi .sgt c128_i32_258 c0_i32_261
  let v632 : BitVec 32 := Scalar.extui v631
  let c0_i32_262 : BitVec 32 := 0#32
  let v633 : BitVec 1 := Scalar.cmpi .slt c128_i32_258 c0_i32_262
  let v634 : BitVec 32 := Scalar.extui v633
  let v635 : BitVec 32 := Scalar.subi v632 v634
  let v636 : BitVec 1 := Scalar.cmpi .ne v630 v635
  let v637 : BitVec 32 := Scalar.remsi v624 c128_i32_258
  let c0_i32_263 : BitVec 32 := 0#32
  let v638 : BitVec 1 := Scalar.cmpi .ne v637 c0_i32_263
  let v639 : BitVec 1 := Scalar.andi v636 v638
  let v625 : BitVec 32 := Scalar.divsi v624 c128_i32_258
  let c1_i32_264 : BitVec 32 := 1#32
  let v640 : BitVec 32 := Scalar.subi v625 c1_i32_264
  let v641 : BitVec 32 := Scalar.select v639 v640 v625
  let c128_i32_265 : BitVec 32 := 128#32
  let v642 : BitVec 32 := Scalar.muli v641 c128_i32_265
  let v643 : BitVec 32 := Scalar.addi c11264_i32 v642
  let v644 : BitVec 32 := v643
  let v667 : Index := Scalar.indexCast v644
  ![0, v667.toNat]

def k0_chk12 (v624 : BitVec 32) : Prop :=
  (128 ∣ (k0_mult12 v624).toNat) ∧
  (∀ a, (k0_off24 v624) a + S64x128.size a ≤ S64x32768.size a)
theorem k0_mult12_dvd : ∀ (v624 : BitVec 32) (k0_hw12 : k0_chk12 v624), 128 ∣ (k0_mult12 v624).toNat := fun v624 k0_hw12 => k0_hw12.1
theorem k0_off24_inb : ∀ (v624 : BitVec 32) (k0_hw12 : k0_chk12 v624), ∀ a, (k0_off24 v624) a + S64x128.size a ≤ S64x32768.size a := fun v624 k0_hw12 => k0_hw12.2

def k0_off25 (i : grid0.Coords) : Fin 1 → Nat :=
  let arg0 : BitVec 32 := BitVec.ofNat 32 (i 0).val
  let c32_i32_280 : BitVec 32 := 32#32
  let v677 : BitVec 32 := Scalar.muli arg0 c32_i32_280
  let c12_i32 : BitVec 32 := 12#32
  let v678 : BitVec 32 := Scalar.addi v677 c12_i32
  let v679 : Index := Scalar.indexCast v678
  ![v679.toNat]
def k0_mult13 (v680 : BitVec 32) : BitVec 32 :=
  let c12288_i32 : BitVec 32 := 12288#32
  let c0_i32_282 : BitVec 32 := 0#32
  let v682 : BitVec 1 := Scalar.cmpi .sgt v680 c0_i32_282
  let v683 : BitVec 32 := Scalar.extui v682
  let c0_i32_283 : BitVec 32 := 0#32
  let v684 : BitVec 1 := Scalar.cmpi .slt v680 c0_i32_283
  let v685 : BitVec 32 := Scalar.extui v684
  let v686 : BitVec 32 := Scalar.subi v683 v685
  let c128_i32_281 : BitVec 32 := 128#32
  let c0_i32_284 : BitVec 32 := 0#32
  let v687 : BitVec 1 := Scalar.cmpi .sgt c128_i32_281 c0_i32_284
  let v688 : BitVec 32 := Scalar.extui v687
  let c0_i32_285 : BitVec 32 := 0#32
  let v689 : BitVec 1 := Scalar.cmpi .slt c128_i32_281 c0_i32_285
  let v690 : BitVec 32 := Scalar.extui v689
  let v691 : BitVec 32 := Scalar.subi v688 v690
  let v692 : BitVec 1 := Scalar.cmpi .ne v686 v691
  let v693 : BitVec 32 := Scalar.remsi v680 c128_i32_281
  let c0_i32_286 : BitVec 32 := 0#32
  let v694 : BitVec 1 := Scalar.cmpi .ne v693 c0_i32_286
  let v695 : BitVec 1 := Scalar.andi v692 v694
  let v681 : BitVec 32 := Scalar.divsi v680 c128_i32_281
  let c1_i32_287 : BitVec 32 := 1#32
  let v696 : BitVec 32 := Scalar.subi v681 c1_i32_287
  let v697 : BitVec 32 := Scalar.select v695 v696 v681
  let c128_i32_288 : BitVec 32 := 128#32
  let v698 : BitVec 32 := Scalar.muli v697 c128_i32_288
  let v699 : BitVec 32 := Scalar.addi c12288_i32 v698
  v699

def k0_off26 (v680 : BitVec 32) : Fin 2 → Nat :=
  let c0_301 : Index := 0#32
  let c12288_i32 : BitVec 32 := 12288#32
  let c0_i32_282 : BitVec 32 := 0#32
  let v682 : BitVec 1 := Scalar.cmpi .sgt v680 c0_i32_282
  let v683 : BitVec 32 := Scalar.extui v682
  let c0_i32_283 : BitVec 32 := 0#32
  let v684 : BitVec 1 := Scalar.cmpi .slt v680 c0_i32_283
  let v685 : BitVec 32 := Scalar.extui v684
  let v686 : BitVec 32 := Scalar.subi v683 v685
  let c128_i32_281 : BitVec 32 := 128#32
  let c0_i32_284 : BitVec 32 := 0#32
  let v687 : BitVec 1 := Scalar.cmpi .sgt c128_i32_281 c0_i32_284
  let v688 : BitVec 32 := Scalar.extui v687
  let c0_i32_285 : BitVec 32 := 0#32
  let v689 : BitVec 1 := Scalar.cmpi .slt c128_i32_281 c0_i32_285
  let v690 : BitVec 32 := Scalar.extui v689
  let v691 : BitVec 32 := Scalar.subi v688 v690
  let v692 : BitVec 1 := Scalar.cmpi .ne v686 v691
  let v693 : BitVec 32 := Scalar.remsi v680 c128_i32_281
  let c0_i32_286 : BitVec 32 := 0#32
  let v694 : BitVec 1 := Scalar.cmpi .ne v693 c0_i32_286
  let v695 : BitVec 1 := Scalar.andi v692 v694
  let v681 : BitVec 32 := Scalar.divsi v680 c128_i32_281
  let c1_i32_287 : BitVec 32 := 1#32
  let v696 : BitVec 32 := Scalar.subi v681 c1_i32_287
  let v697 : BitVec 32 := Scalar.select v695 v696 v681
  let c128_i32_288 : BitVec 32 := 128#32
  let v698 : BitVec 32 := Scalar.muli v697 c128_i32_288
  let v699 : BitVec 32 := Scalar.addi c12288_i32 v698
  let v700 : BitVec 32 := v699
  let v723 : Index := Scalar.indexCast v700
  ![0, v723.toNat]

def k0_chk13 (v680 : BitVec 32) : Prop :=
  (128 ∣ (k0_mult13 v680).toNat) ∧
  (∀ a, (k0_off26 v680) a + S64x128.size a ≤ S64x32768.size a)
theorem k0_mult13_dvd : ∀ (v680 : BitVec 32) (k0_hw13 : k0_chk13 v680), 128 ∣ (k0_mult13 v680).toNat := fun v680 k0_hw13 => k0_hw13.1
theorem k0_off26_inb : ∀ (v680 : BitVec 32) (k0_hw13 : k0_chk13 v680), ∀ a, (k0_off26 v680) a + S64x128.size a ≤ S64x32768.size a := fun v680 k0_hw13 => k0_hw13.2

def k0_off27 (i : grid0.Coords) : Fin 1 → Nat :=
  let arg0 : BitVec 32 := BitVec.ofNat 32 (i 0).val
  let c32_i32_303 : BitVec 32 := 32#32
  let v733 : BitVec 32 := Scalar.muli arg0 c32_i32_303
  let c13_i32 : BitVec 32 := 13#32
  let v734 : BitVec 32 := Scalar.addi v733 c13_i32
  let v735 : Index := Scalar.indexCast v734
  ![v735.toNat]
def k0_mult14 (v736 : BitVec 32) : BitVec 32 :=
  let c13312_i32 : BitVec 32 := 13312#32
  let c0_i32_305 : BitVec 32 := 0#32
  let v738 : BitVec 1 := Scalar.cmpi .sgt v736 c0_i32_305
  let v739 : BitVec 32 := Scalar.extui v738
  let c0_i32_306 : BitVec 32 := 0#32
  let v740 : BitVec 1 := Scalar.cmpi .slt v736 c0_i32_306
  let v741 : BitVec 32 := Scalar.extui v740
  let v742 : BitVec 32 := Scalar.subi v739 v741
  let c128_i32_304 : BitVec 32 := 128#32
  let c0_i32_307 : BitVec 32 := 0#32
  let v743 : BitVec 1 := Scalar.cmpi .sgt c128_i32_304 c0_i32_307
  let v744 : BitVec 32 := Scalar.extui v743
  let c0_i32_308 : BitVec 32 := 0#32
  let v745 : BitVec 1 := Scalar.cmpi .slt c128_i32_304 c0_i32_308
  let v746 : BitVec 32 := Scalar.extui v745
  let v747 : BitVec 32 := Scalar.subi v744 v746
  let v748 : BitVec 1 := Scalar.cmpi .ne v742 v747
  let v749 : BitVec 32 := Scalar.remsi v736 c128_i32_304
  let c0_i32_309 : BitVec 32 := 0#32
  let v750 : BitVec 1 := Scalar.cmpi .ne v749 c0_i32_309
  let v751 : BitVec 1 := Scalar.andi v748 v750
  let v737 : BitVec 32 := Scalar.divsi v736 c128_i32_304
  let c1_i32_310 : BitVec 32 := 1#32
  let v752 : BitVec 32 := Scalar.subi v737 c1_i32_310
  let v753 : BitVec 32 := Scalar.select v751 v752 v737
  let c128_i32_311 : BitVec 32 := 128#32
  let v754 : BitVec 32 := Scalar.muli v753 c128_i32_311
  let v755 : BitVec 32 := Scalar.addi c13312_i32 v754
  v755

def k0_off28 (v736 : BitVec 32) : Fin 2 → Nat :=
  let c0_324 : Index := 0#32
  let c13312_i32 : BitVec 32 := 13312#32
  let c0_i32_305 : BitVec 32 := 0#32
  let v738 : BitVec 1 := Scalar.cmpi .sgt v736 c0_i32_305
  let v739 : BitVec 32 := Scalar.extui v738
  let c0_i32_306 : BitVec 32 := 0#32
  let v740 : BitVec 1 := Scalar.cmpi .slt v736 c0_i32_306
  let v741 : BitVec 32 := Scalar.extui v740
  let v742 : BitVec 32 := Scalar.subi v739 v741
  let c128_i32_304 : BitVec 32 := 128#32
  let c0_i32_307 : BitVec 32 := 0#32
  let v743 : BitVec 1 := Scalar.cmpi .sgt c128_i32_304 c0_i32_307
  let v744 : BitVec 32 := Scalar.extui v743
  let c0_i32_308 : BitVec 32 := 0#32
  let v745 : BitVec 1 := Scalar.cmpi .slt c128_i32_304 c0_i32_308
  let v746 : BitVec 32 := Scalar.extui v745
  let v747 : BitVec 32 := Scalar.subi v744 v746
  let v748 : BitVec 1 := Scalar.cmpi .ne v742 v747
  let v749 : BitVec 32 := Scalar.remsi v736 c128_i32_304
  let c0_i32_309 : BitVec 32 := 0#32
  let v750 : BitVec 1 := Scalar.cmpi .ne v749 c0_i32_309
  let v751 : BitVec 1 := Scalar.andi v748 v750
  let v737 : BitVec 32 := Scalar.divsi v736 c128_i32_304
  let c1_i32_310 : BitVec 32 := 1#32
  let v752 : BitVec 32 := Scalar.subi v737 c1_i32_310
  let v753 : BitVec 32 := Scalar.select v751 v752 v737
  let c128_i32_311 : BitVec 32 := 128#32
  let v754 : BitVec 32 := Scalar.muli v753 c128_i32_311
  let v755 : BitVec 32 := Scalar.addi c13312_i32 v754
  let v756 : BitVec 32 := v755
  let v779 : Index := Scalar.indexCast v756
  ![0, v779.toNat]

def k0_chk14 (v736 : BitVec 32) : Prop :=
  (128 ∣ (k0_mult14 v736).toNat) ∧
  (∀ a, (k0_off28 v736) a + S64x128.size a ≤ S64x32768.size a)
theorem k0_mult14_dvd : ∀ (v736 : BitVec 32) (k0_hw14 : k0_chk14 v736), 128 ∣ (k0_mult14 v736).toNat := fun v736 k0_hw14 => k0_hw14.1
theorem k0_off28_inb : ∀ (v736 : BitVec 32) (k0_hw14 : k0_chk14 v736), ∀ a, (k0_off28 v736) a + S64x128.size a ≤ S64x32768.size a := fun v736 k0_hw14 => k0_hw14.2

def k0_off29 (i : grid0.Coords) : Fin 1 → Nat :=
  let arg0 : BitVec 32 := BitVec.ofNat 32 (i 0).val
  let c32_i32_326 : BitVec 32 := 32#32
  let v789 : BitVec 32 := Scalar.muli arg0 c32_i32_326
  let c14_i32 : BitVec 32 := 14#32
  let v790 : BitVec 32 := Scalar.addi v789 c14_i32
  let v791 : Index := Scalar.indexCast v790
  ![v791.toNat]
def k0_mult15 (v792 : BitVec 32) : BitVec 32 :=
  let c14336_i32 : BitVec 32 := 14336#32
  let c0_i32_328 : BitVec 32 := 0#32
  let v794 : BitVec 1 := Scalar.cmpi .sgt v792 c0_i32_328
  let v795 : BitVec 32 := Scalar.extui v794
  let c0_i32_329 : BitVec 32 := 0#32
  let v796 : BitVec 1 := Scalar.cmpi .slt v792 c0_i32_329
  let v797 : BitVec 32 := Scalar.extui v796
  let v798 : BitVec 32 := Scalar.subi v795 v797
  let c128_i32_327 : BitVec 32 := 128#32
  let c0_i32_330 : BitVec 32 := 0#32
  let v799 : BitVec 1 := Scalar.cmpi .sgt c128_i32_327 c0_i32_330
  let v800 : BitVec 32 := Scalar.extui v799
  let c0_i32_331 : BitVec 32 := 0#32
  let v801 : BitVec 1 := Scalar.cmpi .slt c128_i32_327 c0_i32_331
  let v802 : BitVec 32 := Scalar.extui v801
  let v803 : BitVec 32 := Scalar.subi v800 v802
  let v804 : BitVec 1 := Scalar.cmpi .ne v798 v803
  let v805 : BitVec 32 := Scalar.remsi v792 c128_i32_327
  let c0_i32_332 : BitVec 32 := 0#32
  let v806 : BitVec 1 := Scalar.cmpi .ne v805 c0_i32_332
  let v807 : BitVec 1 := Scalar.andi v804 v806
  let v793 : BitVec 32 := Scalar.divsi v792 c128_i32_327
  let c1_i32_333 : BitVec 32 := 1#32
  let v808 : BitVec 32 := Scalar.subi v793 c1_i32_333
  let v809 : BitVec 32 := Scalar.select v807 v808 v793
  let c128_i32_334 : BitVec 32 := 128#32
  let v810 : BitVec 32 := Scalar.muli v809 c128_i32_334
  let v811 : BitVec 32 := Scalar.addi c14336_i32 v810
  v811

def k0_off30 (v792 : BitVec 32) : Fin 2 → Nat :=
  let c0_347 : Index := 0#32
  let c14336_i32 : BitVec 32 := 14336#32
  let c0_i32_328 : BitVec 32 := 0#32
  let v794 : BitVec 1 := Scalar.cmpi .sgt v792 c0_i32_328
  let v795 : BitVec 32 := Scalar.extui v794
  let c0_i32_329 : BitVec 32 := 0#32
  let v796 : BitVec 1 := Scalar.cmpi .slt v792 c0_i32_329
  let v797 : BitVec 32 := Scalar.extui v796
  let v798 : BitVec 32 := Scalar.subi v795 v797
  let c128_i32_327 : BitVec 32 := 128#32
  let c0_i32_330 : BitVec 32 := 0#32
  let v799 : BitVec 1 := Scalar.cmpi .sgt c128_i32_327 c0_i32_330
  let v800 : BitVec 32 := Scalar.extui v799
  let c0_i32_331 : BitVec 32 := 0#32
  let v801 : BitVec 1 := Scalar.cmpi .slt c128_i32_327 c0_i32_331
  let v802 : BitVec 32 := Scalar.extui v801
  let v803 : BitVec 32 := Scalar.subi v800 v802
  let v804 : BitVec 1 := Scalar.cmpi .ne v798 v803
  let v805 : BitVec 32 := Scalar.remsi v792 c128_i32_327
  let c0_i32_332 : BitVec 32 := 0#32
  let v806 : BitVec 1 := Scalar.cmpi .ne v805 c0_i32_332
  let v807 : BitVec 1 := Scalar.andi v804 v806
  let v793 : BitVec 32 := Scalar.divsi v792 c128_i32_327
  let c1_i32_333 : BitVec 32 := 1#32
  let v808 : BitVec 32 := Scalar.subi v793 c1_i32_333
  let v809 : BitVec 32 := Scalar.select v807 v808 v793
  let c128_i32_334 : BitVec 32 := 128#32
  let v810 : BitVec 32 := Scalar.muli v809 c128_i32_334
  let v811 : BitVec 32 := Scalar.addi c14336_i32 v810
  let v812 : BitVec 32 := v811
  let v835 : Index := Scalar.indexCast v812
  ![0, v835.toNat]

def k0_chk15 (v792 : BitVec 32) : Prop :=
  (128 ∣ (k0_mult15 v792).toNat) ∧
  (∀ a, (k0_off30 v792) a + S64x128.size a ≤ S64x32768.size a)
theorem k0_mult15_dvd : ∀ (v792 : BitVec 32) (k0_hw15 : k0_chk15 v792), 128 ∣ (k0_mult15 v792).toNat := fun v792 k0_hw15 => k0_hw15.1
theorem k0_off30_inb : ∀ (v792 : BitVec 32) (k0_hw15 : k0_chk15 v792), ∀ a, (k0_off30 v792) a + S64x128.size a ≤ S64x32768.size a := fun v792 k0_hw15 => k0_hw15.2

def k0_off31 (i : grid0.Coords) : Fin 1 → Nat :=
  let arg0 : BitVec 32 := BitVec.ofNat 32 (i 0).val
  let c32_i32_349 : BitVec 32 := 32#32
  let v845 : BitVec 32 := Scalar.muli arg0 c32_i32_349
  let c15_i32 : BitVec 32 := 15#32
  let v846 : BitVec 32 := Scalar.addi v845 c15_i32
  let v847 : Index := Scalar.indexCast v846
  ![v847.toNat]
def k0_mult16 (v848 : BitVec 32) : BitVec 32 :=
  let c15360_i32 : BitVec 32 := 15360#32
  let c0_i32_351 : BitVec 32 := 0#32
  let v850 : BitVec 1 := Scalar.cmpi .sgt v848 c0_i32_351
  let v851 : BitVec 32 := Scalar.extui v850
  let c0_i32_352 : BitVec 32 := 0#32
  let v852 : BitVec 1 := Scalar.cmpi .slt v848 c0_i32_352
  let v853 : BitVec 32 := Scalar.extui v852
  let v854 : BitVec 32 := Scalar.subi v851 v853
  let c128_i32_350 : BitVec 32 := 128#32
  let c0_i32_353 : BitVec 32 := 0#32
  let v855 : BitVec 1 := Scalar.cmpi .sgt c128_i32_350 c0_i32_353
  let v856 : BitVec 32 := Scalar.extui v855
  let c0_i32_354 : BitVec 32 := 0#32
  let v857 : BitVec 1 := Scalar.cmpi .slt c128_i32_350 c0_i32_354
  let v858 : BitVec 32 := Scalar.extui v857
  let v859 : BitVec 32 := Scalar.subi v856 v858
  let v860 : BitVec 1 := Scalar.cmpi .ne v854 v859
  let v861 : BitVec 32 := Scalar.remsi v848 c128_i32_350
  let c0_i32_355 : BitVec 32 := 0#32
  let v862 : BitVec 1 := Scalar.cmpi .ne v861 c0_i32_355
  let v863 : BitVec 1 := Scalar.andi v860 v862
  let v849 : BitVec 32 := Scalar.divsi v848 c128_i32_350
  let c1_i32_356 : BitVec 32 := 1#32
  let v864 : BitVec 32 := Scalar.subi v849 c1_i32_356
  let v865 : BitVec 32 := Scalar.select v863 v864 v849
  let c128_i32_357 : BitVec 32 := 128#32
  let v866 : BitVec 32 := Scalar.muli v865 c128_i32_357
  let v867 : BitVec 32 := Scalar.addi c15360_i32 v866
  v867

def k0_off32 (v848 : BitVec 32) : Fin 2 → Nat :=
  let c0_370 : Index := 0#32
  let c15360_i32 : BitVec 32 := 15360#32
  let c0_i32_351 : BitVec 32 := 0#32
  let v850 : BitVec 1 := Scalar.cmpi .sgt v848 c0_i32_351
  let v851 : BitVec 32 := Scalar.extui v850
  let c0_i32_352 : BitVec 32 := 0#32
  let v852 : BitVec 1 := Scalar.cmpi .slt v848 c0_i32_352
  let v853 : BitVec 32 := Scalar.extui v852
  let v854 : BitVec 32 := Scalar.subi v851 v853
  let c128_i32_350 : BitVec 32 := 128#32
  let c0_i32_353 : BitVec 32 := 0#32
  let v855 : BitVec 1 := Scalar.cmpi .sgt c128_i32_350 c0_i32_353
  let v856 : BitVec 32 := Scalar.extui v855
  let c0_i32_354 : BitVec 32 := 0#32
  let v857 : BitVec 1 := Scalar.cmpi .slt c128_i32_350 c0_i32_354
  let v858 : BitVec 32 := Scalar.extui v857
  let v859 : BitVec 32 := Scalar.subi v856 v858
  let v860 : BitVec 1 := Scalar.cmpi .ne v854 v859
  let v861 : BitVec 32 := Scalar.remsi v848 c128_i32_350
  let c0_i32_355 : BitVec 32 := 0#32
  let v862 : BitVec 1 := Scalar.cmpi .ne v861 c0_i32_355
  let v863 : BitVec 1 := Scalar.andi v860 v862
  let v849 : BitVec 32 := Scalar.divsi v848 c128_i32_350
  let c1_i32_356 : BitVec 32 := 1#32
  let v864 : BitVec 32 := Scalar.subi v849 c1_i32_356
  let v865 : BitVec 32 := Scalar.select v863 v864 v849
  let c128_i32_357 : BitVec 32 := 128#32
  let v866 : BitVec 32 := Scalar.muli v865 c128_i32_357
  let v867 : BitVec 32 := Scalar.addi c15360_i32 v866
  let v868 : BitVec 32 := v867
  let v891 : Index := Scalar.indexCast v868
  ![0, v891.toNat]

def k0_chk16 (v848 : BitVec 32) : Prop :=
  (128 ∣ (k0_mult16 v848).toNat) ∧
  (∀ a, (k0_off32 v848) a + S64x128.size a ≤ S64x32768.size a)
theorem k0_mult16_dvd : ∀ (v848 : BitVec 32) (k0_hw16 : k0_chk16 v848), 128 ∣ (k0_mult16 v848).toNat := fun v848 k0_hw16 => k0_hw16.1
theorem k0_off32_inb : ∀ (v848 : BitVec 32) (k0_hw16 : k0_chk16 v848), ∀ a, (k0_off32 v848) a + S64x128.size a ≤ S64x32768.size a := fun v848 k0_hw16 => k0_hw16.2

def k0_off33 (i : grid0.Coords) : Fin 1 → Nat :=
  let arg0 : BitVec 32 := BitVec.ofNat 32 (i 0).val
  let c32_i32_372 : BitVec 32 := 32#32
  let v901 : BitVec 32 := Scalar.muli arg0 c32_i32_372
  let c16_i32 : BitVec 32 := 16#32
  let v902 : BitVec 32 := Scalar.addi v901 c16_i32
  let v903 : Index := Scalar.indexCast v902
  ![v903.toNat]
def k0_mult17 (v904 : BitVec 32) : BitVec 32 :=
  let c16384_i32 : BitVec 32 := 16384#32
  let c0_i32_374 : BitVec 32 := 0#32
  let v906 : BitVec 1 := Scalar.cmpi .sgt v904 c0_i32_374
  let v907 : BitVec 32 := Scalar.extui v906
  let c0_i32_375 : BitVec 32 := 0#32
  let v908 : BitVec 1 := Scalar.cmpi .slt v904 c0_i32_375
  let v909 : BitVec 32 := Scalar.extui v908
  let v910 : BitVec 32 := Scalar.subi v907 v909
  let c128_i32_373 : BitVec 32 := 128#32
  let c0_i32_376 : BitVec 32 := 0#32
  let v911 : BitVec 1 := Scalar.cmpi .sgt c128_i32_373 c0_i32_376
  let v912 : BitVec 32 := Scalar.extui v911
  let c0_i32_377 : BitVec 32 := 0#32
  let v913 : BitVec 1 := Scalar.cmpi .slt c128_i32_373 c0_i32_377
  let v914 : BitVec 32 := Scalar.extui v913
  let v915 : BitVec 32 := Scalar.subi v912 v914
  let v916 : BitVec 1 := Scalar.cmpi .ne v910 v915
  let v917 : BitVec 32 := Scalar.remsi v904 c128_i32_373
  let c0_i32_378 : BitVec 32 := 0#32
  let v918 : BitVec 1 := Scalar.cmpi .ne v917 c0_i32_378
  let v919 : BitVec 1 := Scalar.andi v916 v918
  let v905 : BitVec 32 := Scalar.divsi v904 c128_i32_373
  let c1_i32_379 : BitVec 32 := 1#32
  let v920 : BitVec 32 := Scalar.subi v905 c1_i32_379
  let v921 : BitVec 32 := Scalar.select v919 v920 v905
  let c128_i32_380 : BitVec 32 := 128#32
  let v922 : BitVec 32 := Scalar.muli v921 c128_i32_380
  let v923 : BitVec 32 := Scalar.addi c16384_i32 v922
  v923

def k0_off34 (v904 : BitVec 32) : Fin 2 → Nat :=
  let c0_393 : Index := 0#32
  let c16384_i32 : BitVec 32 := 16384#32
  let c0_i32_374 : BitVec 32 := 0#32
  let v906 : BitVec 1 := Scalar.cmpi .sgt v904 c0_i32_374
  let v907 : BitVec 32 := Scalar.extui v906
  let c0_i32_375 : BitVec 32 := 0#32
  let v908 : BitVec 1 := Scalar.cmpi .slt v904 c0_i32_375
  let v909 : BitVec 32 := Scalar.extui v908
  let v910 : BitVec 32 := Scalar.subi v907 v909
  let c128_i32_373 : BitVec 32 := 128#32
  let c0_i32_376 : BitVec 32 := 0#32
  let v911 : BitVec 1 := Scalar.cmpi .sgt c128_i32_373 c0_i32_376
  let v912 : BitVec 32 := Scalar.extui v911
  let c0_i32_377 : BitVec 32 := 0#32
  let v913 : BitVec 1 := Scalar.cmpi .slt c128_i32_373 c0_i32_377
  let v914 : BitVec 32 := Scalar.extui v913
  let v915 : BitVec 32 := Scalar.subi v912 v914
  let v916 : BitVec 1 := Scalar.cmpi .ne v910 v915
  let v917 : BitVec 32 := Scalar.remsi v904 c128_i32_373
  let c0_i32_378 : BitVec 32 := 0#32
  let v918 : BitVec 1 := Scalar.cmpi .ne v917 c0_i32_378
  let v919 : BitVec 1 := Scalar.andi v916 v918
  let v905 : BitVec 32 := Scalar.divsi v904 c128_i32_373
  let c1_i32_379 : BitVec 32 := 1#32
  let v920 : BitVec 32 := Scalar.subi v905 c1_i32_379
  let v921 : BitVec 32 := Scalar.select v919 v920 v905
  let c128_i32_380 : BitVec 32 := 128#32
  let v922 : BitVec 32 := Scalar.muli v921 c128_i32_380
  let v923 : BitVec 32 := Scalar.addi c16384_i32 v922
  let v924 : BitVec 32 := v923
  let v947 : Index := Scalar.indexCast v924
  ![0, v947.toNat]

def k0_chk17 (v904 : BitVec 32) : Prop :=
  (128 ∣ (k0_mult17 v904).toNat) ∧
  (∀ a, (k0_off34 v904) a + S64x128.size a ≤ S64x32768.size a)
theorem k0_mult17_dvd : ∀ (v904 : BitVec 32) (k0_hw17 : k0_chk17 v904), 128 ∣ (k0_mult17 v904).toNat := fun v904 k0_hw17 => k0_hw17.1
theorem k0_off34_inb : ∀ (v904 : BitVec 32) (k0_hw17 : k0_chk17 v904), ∀ a, (k0_off34 v904) a + S64x128.size a ≤ S64x32768.size a := fun v904 k0_hw17 => k0_hw17.2

def k0_off35 (i : grid0.Coords) : Fin 1 → Nat :=
  let arg0 : BitVec 32 := BitVec.ofNat 32 (i 0).val
  let c32_i32_395 : BitVec 32 := 32#32
  let v957 : BitVec 32 := Scalar.muli arg0 c32_i32_395
  let c17_i32 : BitVec 32 := 17#32
  let v958 : BitVec 32 := Scalar.addi v957 c17_i32
  let v959 : Index := Scalar.indexCast v958
  ![v959.toNat]
def k0_mult18 (v960 : BitVec 32) : BitVec 32 :=
  let c17408_i32 : BitVec 32 := 17408#32
  let c0_i32_397 : BitVec 32 := 0#32
  let v962 : BitVec 1 := Scalar.cmpi .sgt v960 c0_i32_397
  let v963 : BitVec 32 := Scalar.extui v962
  let c0_i32_398 : BitVec 32 := 0#32
  let v964 : BitVec 1 := Scalar.cmpi .slt v960 c0_i32_398
  let v965 : BitVec 32 := Scalar.extui v964
  let v966 : BitVec 32 := Scalar.subi v963 v965
  let c128_i32_396 : BitVec 32 := 128#32
  let c0_i32_399 : BitVec 32 := 0#32
  let v967 : BitVec 1 := Scalar.cmpi .sgt c128_i32_396 c0_i32_399
  let v968 : BitVec 32 := Scalar.extui v967
  let c0_i32_400 : BitVec 32 := 0#32
  let v969 : BitVec 1 := Scalar.cmpi .slt c128_i32_396 c0_i32_400
  let v970 : BitVec 32 := Scalar.extui v969
  let v971 : BitVec 32 := Scalar.subi v968 v970
  let v972 : BitVec 1 := Scalar.cmpi .ne v966 v971
  let v973 : BitVec 32 := Scalar.remsi v960 c128_i32_396
  let c0_i32_401 : BitVec 32 := 0#32
  let v974 : BitVec 1 := Scalar.cmpi .ne v973 c0_i32_401
  let v975 : BitVec 1 := Scalar.andi v972 v974
  let v961 : BitVec 32 := Scalar.divsi v960 c128_i32_396
  let c1_i32_402 : BitVec 32 := 1#32
  let v976 : BitVec 32 := Scalar.subi v961 c1_i32_402
  let v977 : BitVec 32 := Scalar.select v975 v976 v961
  let c128_i32_403 : BitVec 32 := 128#32
  let v978 : BitVec 32 := Scalar.muli v977 c128_i32_403
  let v979 : BitVec 32 := Scalar.addi c17408_i32 v978
  v979

def k0_off36 (v960 : BitVec 32) : Fin 2 → Nat :=
  let c0_416 : Index := 0#32
  let c17408_i32 : BitVec 32 := 17408#32
  let c0_i32_397 : BitVec 32 := 0#32
  let v962 : BitVec 1 := Scalar.cmpi .sgt v960 c0_i32_397
  let v963 : BitVec 32 := Scalar.extui v962
  let c0_i32_398 : BitVec 32 := 0#32
  let v964 : BitVec 1 := Scalar.cmpi .slt v960 c0_i32_398
  let v965 : BitVec 32 := Scalar.extui v964
  let v966 : BitVec 32 := Scalar.subi v963 v965
  let c128_i32_396 : BitVec 32 := 128#32
  let c0_i32_399 : BitVec 32 := 0#32
  let v967 : BitVec 1 := Scalar.cmpi .sgt c128_i32_396 c0_i32_399
  let v968 : BitVec 32 := Scalar.extui v967
  let c0_i32_400 : BitVec 32 := 0#32
  let v969 : BitVec 1 := Scalar.cmpi .slt c128_i32_396 c0_i32_400
  let v970 : BitVec 32 := Scalar.extui v969
  let v971 : BitVec 32 := Scalar.subi v968 v970
  let v972 : BitVec 1 := Scalar.cmpi .ne v966 v971
  let v973 : BitVec 32 := Scalar.remsi v960 c128_i32_396
  let c0_i32_401 : BitVec 32 := 0#32
  let v974 : BitVec 1 := Scalar.cmpi .ne v973 c0_i32_401
  let v975 : BitVec 1 := Scalar.andi v972 v974
  let v961 : BitVec 32 := Scalar.divsi v960 c128_i32_396
  let c1_i32_402 : BitVec 32 := 1#32
  let v976 : BitVec 32 := Scalar.subi v961 c1_i32_402
  let v977 : BitVec 32 := Scalar.select v975 v976 v961
  let c128_i32_403 : BitVec 32 := 128#32
  let v978 : BitVec 32 := Scalar.muli v977 c128_i32_403
  let v979 : BitVec 32 := Scalar.addi c17408_i32 v978
  let v980 : BitVec 32 := v979
  let v1003 : Index := Scalar.indexCast v980
  ![0, v1003.toNat]

def k0_chk18 (v960 : BitVec 32) : Prop :=
  (128 ∣ (k0_mult18 v960).toNat) ∧
  (∀ a, (k0_off36 v960) a + S64x128.size a ≤ S64x32768.size a)
theorem k0_mult18_dvd : ∀ (v960 : BitVec 32) (k0_hw18 : k0_chk18 v960), 128 ∣ (k0_mult18 v960).toNat := fun v960 k0_hw18 => k0_hw18.1
theorem k0_off36_inb : ∀ (v960 : BitVec 32) (k0_hw18 : k0_chk18 v960), ∀ a, (k0_off36 v960) a + S64x128.size a ≤ S64x32768.size a := fun v960 k0_hw18 => k0_hw18.2

def k0_off37 (i : grid0.Coords) : Fin 1 → Nat :=
  let arg0 : BitVec 32 := BitVec.ofNat 32 (i 0).val
  let c32_i32_418 : BitVec 32 := 32#32
  let v1013 : BitVec 32 := Scalar.muli arg0 c32_i32_418
  let c18_i32 : BitVec 32 := 18#32
  let v1014 : BitVec 32 := Scalar.addi v1013 c18_i32
  let v1015 : Index := Scalar.indexCast v1014
  ![v1015.toNat]
def k0_mult19 (v1016 : BitVec 32) : BitVec 32 :=
  let c18432_i32 : BitVec 32 := 18432#32
  let c0_i32_420 : BitVec 32 := 0#32
  let v1018 : BitVec 1 := Scalar.cmpi .sgt v1016 c0_i32_420
  let v1019 : BitVec 32 := Scalar.extui v1018
  let c0_i32_421 : BitVec 32 := 0#32
  let v1020 : BitVec 1 := Scalar.cmpi .slt v1016 c0_i32_421
  let v1021 : BitVec 32 := Scalar.extui v1020
  let v1022 : BitVec 32 := Scalar.subi v1019 v1021
  let c128_i32_419 : BitVec 32 := 128#32
  let c0_i32_422 : BitVec 32 := 0#32
  let v1023 : BitVec 1 := Scalar.cmpi .sgt c128_i32_419 c0_i32_422
  let v1024 : BitVec 32 := Scalar.extui v1023
  let c0_i32_423 : BitVec 32 := 0#32
  let v1025 : BitVec 1 := Scalar.cmpi .slt c128_i32_419 c0_i32_423
  let v1026 : BitVec 32 := Scalar.extui v1025
  let v1027 : BitVec 32 := Scalar.subi v1024 v1026
  let v1028 : BitVec 1 := Scalar.cmpi .ne v1022 v1027
  let v1029 : BitVec 32 := Scalar.remsi v1016 c128_i32_419
  let c0_i32_424 : BitVec 32 := 0#32
  let v1030 : BitVec 1 := Scalar.cmpi .ne v1029 c0_i32_424
  let v1031 : BitVec 1 := Scalar.andi v1028 v1030
  let v1017 : BitVec 32 := Scalar.divsi v1016 c128_i32_419
  let c1_i32_425 : BitVec 32 := 1#32
  let v1032 : BitVec 32 := Scalar.subi v1017 c1_i32_425
  let v1033 : BitVec 32 := Scalar.select v1031 v1032 v1017
  let c128_i32_426 : BitVec 32 := 128#32
  let v1034 : BitVec 32 := Scalar.muli v1033 c128_i32_426
  let v1035 : BitVec 32 := Scalar.addi c18432_i32 v1034
  v1035

def k0_off38 (v1016 : BitVec 32) : Fin 2 → Nat :=
  let c0_439 : Index := 0#32
  let c18432_i32 : BitVec 32 := 18432#32
  let c0_i32_420 : BitVec 32 := 0#32
  let v1018 : BitVec 1 := Scalar.cmpi .sgt v1016 c0_i32_420
  let v1019 : BitVec 32 := Scalar.extui v1018
  let c0_i32_421 : BitVec 32 := 0#32
  let v1020 : BitVec 1 := Scalar.cmpi .slt v1016 c0_i32_421
  let v1021 : BitVec 32 := Scalar.extui v1020
  let v1022 : BitVec 32 := Scalar.subi v1019 v1021
  let c128_i32_419 : BitVec 32 := 128#32
  let c0_i32_422 : BitVec 32 := 0#32
  let v1023 : BitVec 1 := Scalar.cmpi .sgt c128_i32_419 c0_i32_422
  let v1024 : BitVec 32 := Scalar.extui v1023
  let c0_i32_423 : BitVec 32 := 0#32
  let v1025 : BitVec 1 := Scalar.cmpi .slt c128_i32_419 c0_i32_423
  let v1026 : BitVec 32 := Scalar.extui v1025
  let v1027 : BitVec 32 := Scalar.subi v1024 v1026
  let v1028 : BitVec 1 := Scalar.cmpi .ne v1022 v1027
  let v1029 : BitVec 32 := Scalar.remsi v1016 c128_i32_419
  let c0_i32_424 : BitVec 32 := 0#32
  let v1030 : BitVec 1 := Scalar.cmpi .ne v1029 c0_i32_424
  let v1031 : BitVec 1 := Scalar.andi v1028 v1030
  let v1017 : BitVec 32 := Scalar.divsi v1016 c128_i32_419
  let c1_i32_425 : BitVec 32 := 1#32
  let v1032 : BitVec 32 := Scalar.subi v1017 c1_i32_425
  let v1033 : BitVec 32 := Scalar.select v1031 v1032 v1017
  let c128_i32_426 : BitVec 32 := 128#32
  let v1034 : BitVec 32 := Scalar.muli v1033 c128_i32_426
  let v1035 : BitVec 32 := Scalar.addi c18432_i32 v1034
  let v1036 : BitVec 32 := v1035
  let v1059 : Index := Scalar.indexCast v1036
  ![0, v1059.toNat]

def k0_chk19 (v1016 : BitVec 32) : Prop :=
  (128 ∣ (k0_mult19 v1016).toNat) ∧
  (∀ a, (k0_off38 v1016) a + S64x128.size a ≤ S64x32768.size a)
theorem k0_mult19_dvd : ∀ (v1016 : BitVec 32) (k0_hw19 : k0_chk19 v1016), 128 ∣ (k0_mult19 v1016).toNat := fun v1016 k0_hw19 => k0_hw19.1
theorem k0_off38_inb : ∀ (v1016 : BitVec 32) (k0_hw19 : k0_chk19 v1016), ∀ a, (k0_off38 v1016) a + S64x128.size a ≤ S64x32768.size a := fun v1016 k0_hw19 => k0_hw19.2

def k0_off39 (i : grid0.Coords) : Fin 1 → Nat :=
  let arg0 : BitVec 32 := BitVec.ofNat 32 (i 0).val
  let c32_i32_441 : BitVec 32 := 32#32
  let v1069 : BitVec 32 := Scalar.muli arg0 c32_i32_441
  let c19_i32 : BitVec 32 := 19#32
  let v1070 : BitVec 32 := Scalar.addi v1069 c19_i32
  let v1071 : Index := Scalar.indexCast v1070
  ![v1071.toNat]
def k0_mult20 (v1072 : BitVec 32) : BitVec 32 :=
  let c19456_i32 : BitVec 32 := 19456#32
  let c0_i32_443 : BitVec 32 := 0#32
  let v1074 : BitVec 1 := Scalar.cmpi .sgt v1072 c0_i32_443
  let v1075 : BitVec 32 := Scalar.extui v1074
  let c0_i32_444 : BitVec 32 := 0#32
  let v1076 : BitVec 1 := Scalar.cmpi .slt v1072 c0_i32_444
  let v1077 : BitVec 32 := Scalar.extui v1076
  let v1078 : BitVec 32 := Scalar.subi v1075 v1077
  let c128_i32_442 : BitVec 32 := 128#32
  let c0_i32_445 : BitVec 32 := 0#32
  let v1079 : BitVec 1 := Scalar.cmpi .sgt c128_i32_442 c0_i32_445
  let v1080 : BitVec 32 := Scalar.extui v1079
  let c0_i32_446 : BitVec 32 := 0#32
  let v1081 : BitVec 1 := Scalar.cmpi .slt c128_i32_442 c0_i32_446
  let v1082 : BitVec 32 := Scalar.extui v1081
  let v1083 : BitVec 32 := Scalar.subi v1080 v1082
  let v1084 : BitVec 1 := Scalar.cmpi .ne v1078 v1083
  let v1085 : BitVec 32 := Scalar.remsi v1072 c128_i32_442
  let c0_i32_447 : BitVec 32 := 0#32
  let v1086 : BitVec 1 := Scalar.cmpi .ne v1085 c0_i32_447
  let v1087 : BitVec 1 := Scalar.andi v1084 v1086
  let v1073 : BitVec 32 := Scalar.divsi v1072 c128_i32_442
  let c1_i32_448 : BitVec 32 := 1#32
  let v1088 : BitVec 32 := Scalar.subi v1073 c1_i32_448
  let v1089 : BitVec 32 := Scalar.select v1087 v1088 v1073
  let c128_i32_449 : BitVec 32 := 128#32
  let v1090 : BitVec 32 := Scalar.muli v1089 c128_i32_449
  let v1091 : BitVec 32 := Scalar.addi c19456_i32 v1090
  v1091

def k0_off40 (v1072 : BitVec 32) : Fin 2 → Nat :=
  let c0_462 : Index := 0#32
  let c19456_i32 : BitVec 32 := 19456#32
  let c0_i32_443 : BitVec 32 := 0#32
  let v1074 : BitVec 1 := Scalar.cmpi .sgt v1072 c0_i32_443
  let v1075 : BitVec 32 := Scalar.extui v1074
  let c0_i32_444 : BitVec 32 := 0#32
  let v1076 : BitVec 1 := Scalar.cmpi .slt v1072 c0_i32_444
  let v1077 : BitVec 32 := Scalar.extui v1076
  let v1078 : BitVec 32 := Scalar.subi v1075 v1077
  let c128_i32_442 : BitVec 32 := 128#32
  let c0_i32_445 : BitVec 32 := 0#32
  let v1079 : BitVec 1 := Scalar.cmpi .sgt c128_i32_442 c0_i32_445
  let v1080 : BitVec 32 := Scalar.extui v1079
  let c0_i32_446 : BitVec 32 := 0#32
  let v1081 : BitVec 1 := Scalar.cmpi .slt c128_i32_442 c0_i32_446
  let v1082 : BitVec 32 := Scalar.extui v1081
  let v1083 : BitVec 32 := Scalar.subi v1080 v1082
  let v1084 : BitVec 1 := Scalar.cmpi .ne v1078 v1083
  let v1085 : BitVec 32 := Scalar.remsi v1072 c128_i32_442
  let c0_i32_447 : BitVec 32 := 0#32
  let v1086 : BitVec 1 := Scalar.cmpi .ne v1085 c0_i32_447
  let v1087 : BitVec 1 := Scalar.andi v1084 v1086
  let v1073 : BitVec 32 := Scalar.divsi v1072 c128_i32_442
  let c1_i32_448 : BitVec 32 := 1#32
  let v1088 : BitVec 32 := Scalar.subi v1073 c1_i32_448
  let v1089 : BitVec 32 := Scalar.select v1087 v1088 v1073
  let c128_i32_449 : BitVec 32 := 128#32
  let v1090 : BitVec 32 := Scalar.muli v1089 c128_i32_449
  let v1091 : BitVec 32 := Scalar.addi c19456_i32 v1090
  let v1092 : BitVec 32 := v1091
  let v1115 : Index := Scalar.indexCast v1092
  ![0, v1115.toNat]

def k0_chk20 (v1072 : BitVec 32) : Prop :=
  (128 ∣ (k0_mult20 v1072).toNat) ∧
  (∀ a, (k0_off40 v1072) a + S64x128.size a ≤ S64x32768.size a)
theorem k0_mult20_dvd : ∀ (v1072 : BitVec 32) (k0_hw20 : k0_chk20 v1072), 128 ∣ (k0_mult20 v1072).toNat := fun v1072 k0_hw20 => k0_hw20.1
theorem k0_off40_inb : ∀ (v1072 : BitVec 32) (k0_hw20 : k0_chk20 v1072), ∀ a, (k0_off40 v1072) a + S64x128.size a ≤ S64x32768.size a := fun v1072 k0_hw20 => k0_hw20.2

def k0_off41 (i : grid0.Coords) : Fin 1 → Nat :=
  let arg0 : BitVec 32 := BitVec.ofNat 32 (i 0).val
  let c32_i32_464 : BitVec 32 := 32#32
  let v1125 : BitVec 32 := Scalar.muli arg0 c32_i32_464
  let c20_i32 : BitVec 32 := 20#32
  let v1126 : BitVec 32 := Scalar.addi v1125 c20_i32
  let v1127 : Index := Scalar.indexCast v1126
  ![v1127.toNat]
def k0_mult21 (v1128 : BitVec 32) : BitVec 32 :=
  let c20480_i32 : BitVec 32 := 20480#32
  let c0_i32_466 : BitVec 32 := 0#32
  let v1130 : BitVec 1 := Scalar.cmpi .sgt v1128 c0_i32_466
  let v1131 : BitVec 32 := Scalar.extui v1130
  let c0_i32_467 : BitVec 32 := 0#32
  let v1132 : BitVec 1 := Scalar.cmpi .slt v1128 c0_i32_467
  let v1133 : BitVec 32 := Scalar.extui v1132
  let v1134 : BitVec 32 := Scalar.subi v1131 v1133
  let c128_i32_465 : BitVec 32 := 128#32
  let c0_i32_468 : BitVec 32 := 0#32
  let v1135 : BitVec 1 := Scalar.cmpi .sgt c128_i32_465 c0_i32_468
  let v1136 : BitVec 32 := Scalar.extui v1135
  let c0_i32_469 : BitVec 32 := 0#32
  let v1137 : BitVec 1 := Scalar.cmpi .slt c128_i32_465 c0_i32_469
  let v1138 : BitVec 32 := Scalar.extui v1137
  let v1139 : BitVec 32 := Scalar.subi v1136 v1138
  let v1140 : BitVec 1 := Scalar.cmpi .ne v1134 v1139
  let v1141 : BitVec 32 := Scalar.remsi v1128 c128_i32_465
  let c0_i32_470 : BitVec 32 := 0#32
  let v1142 : BitVec 1 := Scalar.cmpi .ne v1141 c0_i32_470
  let v1143 : BitVec 1 := Scalar.andi v1140 v1142
  let v1129 : BitVec 32 := Scalar.divsi v1128 c128_i32_465
  let c1_i32_471 : BitVec 32 := 1#32
  let v1144 : BitVec 32 := Scalar.subi v1129 c1_i32_471
  let v1145 : BitVec 32 := Scalar.select v1143 v1144 v1129
  let c128_i32_472 : BitVec 32 := 128#32
  let v1146 : BitVec 32 := Scalar.muli v1145 c128_i32_472
  let v1147 : BitVec 32 := Scalar.addi c20480_i32 v1146
  v1147

def k0_off42 (v1128 : BitVec 32) : Fin 2 → Nat :=
  let c0_485 : Index := 0#32
  let c20480_i32 : BitVec 32 := 20480#32
  let c0_i32_466 : BitVec 32 := 0#32
  let v1130 : BitVec 1 := Scalar.cmpi .sgt v1128 c0_i32_466
  let v1131 : BitVec 32 := Scalar.extui v1130
  let c0_i32_467 : BitVec 32 := 0#32
  let v1132 : BitVec 1 := Scalar.cmpi .slt v1128 c0_i32_467
  let v1133 : BitVec 32 := Scalar.extui v1132
  let v1134 : BitVec 32 := Scalar.subi v1131 v1133
  let c128_i32_465 : BitVec 32 := 128#32
  let c0_i32_468 : BitVec 32 := 0#32
  let v1135 : BitVec 1 := Scalar.cmpi .sgt c128_i32_465 c0_i32_468
  let v1136 : BitVec 32 := Scalar.extui v1135
  let c0_i32_469 : BitVec 32 := 0#32
  let v1137 : BitVec 1 := Scalar.cmpi .slt c128_i32_465 c0_i32_469
  let v1138 : BitVec 32 := Scalar.extui v1137
  let v1139 : BitVec 32 := Scalar.subi v1136 v1138
  let v1140 : BitVec 1 := Scalar.cmpi .ne v1134 v1139
  let v1141 : BitVec 32 := Scalar.remsi v1128 c128_i32_465
  let c0_i32_470 : BitVec 32 := 0#32
  let v1142 : BitVec 1 := Scalar.cmpi .ne v1141 c0_i32_470
  let v1143 : BitVec 1 := Scalar.andi v1140 v1142
  let v1129 : BitVec 32 := Scalar.divsi v1128 c128_i32_465
  let c1_i32_471 : BitVec 32 := 1#32
  let v1144 : BitVec 32 := Scalar.subi v1129 c1_i32_471
  let v1145 : BitVec 32 := Scalar.select v1143 v1144 v1129
  let c128_i32_472 : BitVec 32 := 128#32
  let v1146 : BitVec 32 := Scalar.muli v1145 c128_i32_472
  let v1147 : BitVec 32 := Scalar.addi c20480_i32 v1146
  let v1148 : BitVec 32 := v1147
  let v1171 : Index := Scalar.indexCast v1148
  ![0, v1171.toNat]

def k0_chk21 (v1128 : BitVec 32) : Prop :=
  (128 ∣ (k0_mult21 v1128).toNat) ∧
  (∀ a, (k0_off42 v1128) a + S64x128.size a ≤ S64x32768.size a)
theorem k0_mult21_dvd : ∀ (v1128 : BitVec 32) (k0_hw21 : k0_chk21 v1128), 128 ∣ (k0_mult21 v1128).toNat := fun v1128 k0_hw21 => k0_hw21.1
theorem k0_off42_inb : ∀ (v1128 : BitVec 32) (k0_hw21 : k0_chk21 v1128), ∀ a, (k0_off42 v1128) a + S64x128.size a ≤ S64x32768.size a := fun v1128 k0_hw21 => k0_hw21.2

def k0_off43 (i : grid0.Coords) : Fin 1 → Nat :=
  let arg0 : BitVec 32 := BitVec.ofNat 32 (i 0).val
  let c32_i32_487 : BitVec 32 := 32#32
  let v1181 : BitVec 32 := Scalar.muli arg0 c32_i32_487
  let c21_i32 : BitVec 32 := 21#32
  let v1182 : BitVec 32 := Scalar.addi v1181 c21_i32
  let v1183 : Index := Scalar.indexCast v1182
  ![v1183.toNat]
def k0_mult22 (v1184 : BitVec 32) : BitVec 32 :=
  let c21504_i32 : BitVec 32 := 21504#32
  let c0_i32_489 : BitVec 32 := 0#32
  let v1186 : BitVec 1 := Scalar.cmpi .sgt v1184 c0_i32_489
  let v1187 : BitVec 32 := Scalar.extui v1186
  let c0_i32_490 : BitVec 32 := 0#32
  let v1188 : BitVec 1 := Scalar.cmpi .slt v1184 c0_i32_490
  let v1189 : BitVec 32 := Scalar.extui v1188
  let v1190 : BitVec 32 := Scalar.subi v1187 v1189
  let c128_i32_488 : BitVec 32 := 128#32
  let c0_i32_491 : BitVec 32 := 0#32
  let v1191 : BitVec 1 := Scalar.cmpi .sgt c128_i32_488 c0_i32_491
  let v1192 : BitVec 32 := Scalar.extui v1191
  let c0_i32_492 : BitVec 32 := 0#32
  let v1193 : BitVec 1 := Scalar.cmpi .slt c128_i32_488 c0_i32_492
  let v1194 : BitVec 32 := Scalar.extui v1193
  let v1195 : BitVec 32 := Scalar.subi v1192 v1194
  let v1196 : BitVec 1 := Scalar.cmpi .ne v1190 v1195
  let v1197 : BitVec 32 := Scalar.remsi v1184 c128_i32_488
  let c0_i32_493 : BitVec 32 := 0#32
  let v1198 : BitVec 1 := Scalar.cmpi .ne v1197 c0_i32_493
  let v1199 : BitVec 1 := Scalar.andi v1196 v1198
  let v1185 : BitVec 32 := Scalar.divsi v1184 c128_i32_488
  let c1_i32_494 : BitVec 32 := 1#32
  let v1200 : BitVec 32 := Scalar.subi v1185 c1_i32_494
  let v1201 : BitVec 32 := Scalar.select v1199 v1200 v1185
  let c128_i32_495 : BitVec 32 := 128#32
  let v1202 : BitVec 32 := Scalar.muli v1201 c128_i32_495
  let v1203 : BitVec 32 := Scalar.addi c21504_i32 v1202
  v1203

def k0_off44 (v1184 : BitVec 32) : Fin 2 → Nat :=
  let c0_508 : Index := 0#32
  let c21504_i32 : BitVec 32 := 21504#32
  let c0_i32_489 : BitVec 32 := 0#32
  let v1186 : BitVec 1 := Scalar.cmpi .sgt v1184 c0_i32_489
  let v1187 : BitVec 32 := Scalar.extui v1186
  let c0_i32_490 : BitVec 32 := 0#32
  let v1188 : BitVec 1 := Scalar.cmpi .slt v1184 c0_i32_490
  let v1189 : BitVec 32 := Scalar.extui v1188
  let v1190 : BitVec 32 := Scalar.subi v1187 v1189
  let c128_i32_488 : BitVec 32 := 128#32
  let c0_i32_491 : BitVec 32 := 0#32
  let v1191 : BitVec 1 := Scalar.cmpi .sgt c128_i32_488 c0_i32_491
  let v1192 : BitVec 32 := Scalar.extui v1191
  let c0_i32_492 : BitVec 32 := 0#32
  let v1193 : BitVec 1 := Scalar.cmpi .slt c128_i32_488 c0_i32_492
  let v1194 : BitVec 32 := Scalar.extui v1193
  let v1195 : BitVec 32 := Scalar.subi v1192 v1194
  let v1196 : BitVec 1 := Scalar.cmpi .ne v1190 v1195
  let v1197 : BitVec 32 := Scalar.remsi v1184 c128_i32_488
  let c0_i32_493 : BitVec 32 := 0#32
  let v1198 : BitVec 1 := Scalar.cmpi .ne v1197 c0_i32_493
  let v1199 : BitVec 1 := Scalar.andi v1196 v1198
  let v1185 : BitVec 32 := Scalar.divsi v1184 c128_i32_488
  let c1_i32_494 : BitVec 32 := 1#32
  let v1200 : BitVec 32 := Scalar.subi v1185 c1_i32_494
  let v1201 : BitVec 32 := Scalar.select v1199 v1200 v1185
  let c128_i32_495 : BitVec 32 := 128#32
  let v1202 : BitVec 32 := Scalar.muli v1201 c128_i32_495
  let v1203 : BitVec 32 := Scalar.addi c21504_i32 v1202
  let v1204 : BitVec 32 := v1203
  let v1227 : Index := Scalar.indexCast v1204
  ![0, v1227.toNat]

def k0_chk22 (v1184 : BitVec 32) : Prop :=
  (128 ∣ (k0_mult22 v1184).toNat) ∧
  (∀ a, (k0_off44 v1184) a + S64x128.size a ≤ S64x32768.size a)
theorem k0_mult22_dvd : ∀ (v1184 : BitVec 32) (k0_hw22 : k0_chk22 v1184), 128 ∣ (k0_mult22 v1184).toNat := fun v1184 k0_hw22 => k0_hw22.1
theorem k0_off44_inb : ∀ (v1184 : BitVec 32) (k0_hw22 : k0_chk22 v1184), ∀ a, (k0_off44 v1184) a + S64x128.size a ≤ S64x32768.size a := fun v1184 k0_hw22 => k0_hw22.2

def k0_off45 (i : grid0.Coords) : Fin 1 → Nat :=
  let arg0 : BitVec 32 := BitVec.ofNat 32 (i 0).val
  let c32_i32_510 : BitVec 32 := 32#32
  let v1237 : BitVec 32 := Scalar.muli arg0 c32_i32_510
  let c22_i32 : BitVec 32 := 22#32
  let v1238 : BitVec 32 := Scalar.addi v1237 c22_i32
  let v1239 : Index := Scalar.indexCast v1238
  ![v1239.toNat]
def k0_mult23 (v1240 : BitVec 32) : BitVec 32 :=
  let c22528_i32 : BitVec 32 := 22528#32
  let c0_i32_512 : BitVec 32 := 0#32
  let v1242 : BitVec 1 := Scalar.cmpi .sgt v1240 c0_i32_512
  let v1243 : BitVec 32 := Scalar.extui v1242
  let c0_i32_513 : BitVec 32 := 0#32
  let v1244 : BitVec 1 := Scalar.cmpi .slt v1240 c0_i32_513
  let v1245 : BitVec 32 := Scalar.extui v1244
  let v1246 : BitVec 32 := Scalar.subi v1243 v1245
  let c128_i32_511 : BitVec 32 := 128#32
  let c0_i32_514 : BitVec 32 := 0#32
  let v1247 : BitVec 1 := Scalar.cmpi .sgt c128_i32_511 c0_i32_514
  let v1248 : BitVec 32 := Scalar.extui v1247
  let c0_i32_515 : BitVec 32 := 0#32
  let v1249 : BitVec 1 := Scalar.cmpi .slt c128_i32_511 c0_i32_515
  let v1250 : BitVec 32 := Scalar.extui v1249
  let v1251 : BitVec 32 := Scalar.subi v1248 v1250
  let v1252 : BitVec 1 := Scalar.cmpi .ne v1246 v1251
  let v1253 : BitVec 32 := Scalar.remsi v1240 c128_i32_511
  let c0_i32_516 : BitVec 32 := 0#32
  let v1254 : BitVec 1 := Scalar.cmpi .ne v1253 c0_i32_516
  let v1255 : BitVec 1 := Scalar.andi v1252 v1254
  let v1241 : BitVec 32 := Scalar.divsi v1240 c128_i32_511
  let c1_i32_517 : BitVec 32 := 1#32
  let v1256 : BitVec 32 := Scalar.subi v1241 c1_i32_517
  let v1257 : BitVec 32 := Scalar.select v1255 v1256 v1241
  let c128_i32_518 : BitVec 32 := 128#32
  let v1258 : BitVec 32 := Scalar.muli v1257 c128_i32_518
  let v1259 : BitVec 32 := Scalar.addi c22528_i32 v1258
  v1259

def k0_off46 (v1240 : BitVec 32) : Fin 2 → Nat :=
  let c0_531 : Index := 0#32
  let c22528_i32 : BitVec 32 := 22528#32
  let c0_i32_512 : BitVec 32 := 0#32
  let v1242 : BitVec 1 := Scalar.cmpi .sgt v1240 c0_i32_512
  let v1243 : BitVec 32 := Scalar.extui v1242
  let c0_i32_513 : BitVec 32 := 0#32
  let v1244 : BitVec 1 := Scalar.cmpi .slt v1240 c0_i32_513
  let v1245 : BitVec 32 := Scalar.extui v1244
  let v1246 : BitVec 32 := Scalar.subi v1243 v1245
  let c128_i32_511 : BitVec 32 := 128#32
  let c0_i32_514 : BitVec 32 := 0#32
  let v1247 : BitVec 1 := Scalar.cmpi .sgt c128_i32_511 c0_i32_514
  let v1248 : BitVec 32 := Scalar.extui v1247
  let c0_i32_515 : BitVec 32 := 0#32
  let v1249 : BitVec 1 := Scalar.cmpi .slt c128_i32_511 c0_i32_515
  let v1250 : BitVec 32 := Scalar.extui v1249
  let v1251 : BitVec 32 := Scalar.subi v1248 v1250
  let v1252 : BitVec 1 := Scalar.cmpi .ne v1246 v1251
  let v1253 : BitVec 32 := Scalar.remsi v1240 c128_i32_511
  let c0_i32_516 : BitVec 32 := 0#32
  let v1254 : BitVec 1 := Scalar.cmpi .ne v1253 c0_i32_516
  let v1255 : BitVec 1 := Scalar.andi v1252 v1254
  let v1241 : BitVec 32 := Scalar.divsi v1240 c128_i32_511
  let c1_i32_517 : BitVec 32 := 1#32
  let v1256 : BitVec 32 := Scalar.subi v1241 c1_i32_517
  let v1257 : BitVec 32 := Scalar.select v1255 v1256 v1241
  let c128_i32_518 : BitVec 32 := 128#32
  let v1258 : BitVec 32 := Scalar.muli v1257 c128_i32_518
  let v1259 : BitVec 32 := Scalar.addi c22528_i32 v1258
  let v1260 : BitVec 32 := v1259
  let v1283 : Index := Scalar.indexCast v1260
  ![0, v1283.toNat]

def k0_chk23 (v1240 : BitVec 32) : Prop :=
  (128 ∣ (k0_mult23 v1240).toNat) ∧
  (∀ a, (k0_off46 v1240) a + S64x128.size a ≤ S64x32768.size a)
theorem k0_mult23_dvd : ∀ (v1240 : BitVec 32) (k0_hw23 : k0_chk23 v1240), 128 ∣ (k0_mult23 v1240).toNat := fun v1240 k0_hw23 => k0_hw23.1
theorem k0_off46_inb : ∀ (v1240 : BitVec 32) (k0_hw23 : k0_chk23 v1240), ∀ a, (k0_off46 v1240) a + S64x128.size a ≤ S64x32768.size a := fun v1240 k0_hw23 => k0_hw23.2

def k0_off47 (i : grid0.Coords) : Fin 1 → Nat :=
  let arg0 : BitVec 32 := BitVec.ofNat 32 (i 0).val
  let c32_i32_533 : BitVec 32 := 32#32
  let v1293 : BitVec 32 := Scalar.muli arg0 c32_i32_533
  let c23_i32 : BitVec 32 := 23#32
  let v1294 : BitVec 32 := Scalar.addi v1293 c23_i32
  let v1295 : Index := Scalar.indexCast v1294
  ![v1295.toNat]
def k0_mult24 (v1296 : BitVec 32) : BitVec 32 :=
  let c23552_i32 : BitVec 32 := 23552#32
  let c0_i32_535 : BitVec 32 := 0#32
  let v1298 : BitVec 1 := Scalar.cmpi .sgt v1296 c0_i32_535
  let v1299 : BitVec 32 := Scalar.extui v1298
  let c0_i32_536 : BitVec 32 := 0#32
  let v1300 : BitVec 1 := Scalar.cmpi .slt v1296 c0_i32_536
  let v1301 : BitVec 32 := Scalar.extui v1300
  let v1302 : BitVec 32 := Scalar.subi v1299 v1301
  let c128_i32_534 : BitVec 32 := 128#32
  let c0_i32_537 : BitVec 32 := 0#32
  let v1303 : BitVec 1 := Scalar.cmpi .sgt c128_i32_534 c0_i32_537
  let v1304 : BitVec 32 := Scalar.extui v1303
  let c0_i32_538 : BitVec 32 := 0#32
  let v1305 : BitVec 1 := Scalar.cmpi .slt c128_i32_534 c0_i32_538
  let v1306 : BitVec 32 := Scalar.extui v1305
  let v1307 : BitVec 32 := Scalar.subi v1304 v1306
  let v1308 : BitVec 1 := Scalar.cmpi .ne v1302 v1307
  let v1309 : BitVec 32 := Scalar.remsi v1296 c128_i32_534
  let c0_i32_539 : BitVec 32 := 0#32
  let v1310 : BitVec 1 := Scalar.cmpi .ne v1309 c0_i32_539
  let v1311 : BitVec 1 := Scalar.andi v1308 v1310
  let v1297 : BitVec 32 := Scalar.divsi v1296 c128_i32_534
  let c1_i32_540 : BitVec 32 := 1#32
  let v1312 : BitVec 32 := Scalar.subi v1297 c1_i32_540
  let v1313 : BitVec 32 := Scalar.select v1311 v1312 v1297
  let c128_i32_541 : BitVec 32 := 128#32
  let v1314 : BitVec 32 := Scalar.muli v1313 c128_i32_541
  let v1315 : BitVec 32 := Scalar.addi c23552_i32 v1314
  v1315

def k0_off48 (v1296 : BitVec 32) : Fin 2 → Nat :=
  let c0_554 : Index := 0#32
  let c23552_i32 : BitVec 32 := 23552#32
  let c0_i32_535 : BitVec 32 := 0#32
  let v1298 : BitVec 1 := Scalar.cmpi .sgt v1296 c0_i32_535
  let v1299 : BitVec 32 := Scalar.extui v1298
  let c0_i32_536 : BitVec 32 := 0#32
  let v1300 : BitVec 1 := Scalar.cmpi .slt v1296 c0_i32_536
  let v1301 : BitVec 32 := Scalar.extui v1300
  let v1302 : BitVec 32 := Scalar.subi v1299 v1301
  let c128_i32_534 : BitVec 32 := 128#32
  let c0_i32_537 : BitVec 32 := 0#32
  let v1303 : BitVec 1 := Scalar.cmpi .sgt c128_i32_534 c0_i32_537
  let v1304 : BitVec 32 := Scalar.extui v1303
  let c0_i32_538 : BitVec 32 := 0#32
  let v1305 : BitVec 1 := Scalar.cmpi .slt c128_i32_534 c0_i32_538
  let v1306 : BitVec 32 := Scalar.extui v1305
  let v1307 : BitVec 32 := Scalar.subi v1304 v1306
  let v1308 : BitVec 1 := Scalar.cmpi .ne v1302 v1307
  let v1309 : BitVec 32 := Scalar.remsi v1296 c128_i32_534
  let c0_i32_539 : BitVec 32 := 0#32
  let v1310 : BitVec 1 := Scalar.cmpi .ne v1309 c0_i32_539
  let v1311 : BitVec 1 := Scalar.andi v1308 v1310
  let v1297 : BitVec 32 := Scalar.divsi v1296 c128_i32_534
  let c1_i32_540 : BitVec 32 := 1#32
  let v1312 : BitVec 32 := Scalar.subi v1297 c1_i32_540
  let v1313 : BitVec 32 := Scalar.select v1311 v1312 v1297
  let c128_i32_541 : BitVec 32 := 128#32
  let v1314 : BitVec 32 := Scalar.muli v1313 c128_i32_541
  let v1315 : BitVec 32 := Scalar.addi c23552_i32 v1314
  let v1316 : BitVec 32 := v1315
  let v1339 : Index := Scalar.indexCast v1316
  ![0, v1339.toNat]

def k0_chk24 (v1296 : BitVec 32) : Prop :=
  (128 ∣ (k0_mult24 v1296).toNat) ∧
  (∀ a, (k0_off48 v1296) a + S64x128.size a ≤ S64x32768.size a)
theorem k0_mult24_dvd : ∀ (v1296 : BitVec 32) (k0_hw24 : k0_chk24 v1296), 128 ∣ (k0_mult24 v1296).toNat := fun v1296 k0_hw24 => k0_hw24.1
theorem k0_off48_inb : ∀ (v1296 : BitVec 32) (k0_hw24 : k0_chk24 v1296), ∀ a, (k0_off48 v1296) a + S64x128.size a ≤ S64x32768.size a := fun v1296 k0_hw24 => k0_hw24.2

def k0_off49 (i : grid0.Coords) : Fin 1 → Nat :=
  let arg0 : BitVec 32 := BitVec.ofNat 32 (i 0).val
  let c32_i32_556 : BitVec 32 := 32#32
  let v1349 : BitVec 32 := Scalar.muli arg0 c32_i32_556
  let c24_i32 : BitVec 32 := 24#32
  let v1350 : BitVec 32 := Scalar.addi v1349 c24_i32
  let v1351 : Index := Scalar.indexCast v1350
  ![v1351.toNat]
def k0_mult25 (v1352 : BitVec 32) : BitVec 32 :=
  let c24576_i32 : BitVec 32 := 24576#32
  let c0_i32_558 : BitVec 32 := 0#32
  let v1354 : BitVec 1 := Scalar.cmpi .sgt v1352 c0_i32_558
  let v1355 : BitVec 32 := Scalar.extui v1354
  let c0_i32_559 : BitVec 32 := 0#32
  let v1356 : BitVec 1 := Scalar.cmpi .slt v1352 c0_i32_559
  let v1357 : BitVec 32 := Scalar.extui v1356
  let v1358 : BitVec 32 := Scalar.subi v1355 v1357
  let c128_i32_557 : BitVec 32 := 128#32
  let c0_i32_560 : BitVec 32 := 0#32
  let v1359 : BitVec 1 := Scalar.cmpi .sgt c128_i32_557 c0_i32_560
  let v1360 : BitVec 32 := Scalar.extui v1359
  let c0_i32_561 : BitVec 32 := 0#32
  let v1361 : BitVec 1 := Scalar.cmpi .slt c128_i32_557 c0_i32_561
  let v1362 : BitVec 32 := Scalar.extui v1361
  let v1363 : BitVec 32 := Scalar.subi v1360 v1362
  let v1364 : BitVec 1 := Scalar.cmpi .ne v1358 v1363
  let v1365 : BitVec 32 := Scalar.remsi v1352 c128_i32_557
  let c0_i32_562 : BitVec 32 := 0#32
  let v1366 : BitVec 1 := Scalar.cmpi .ne v1365 c0_i32_562
  let v1367 : BitVec 1 := Scalar.andi v1364 v1366
  let v1353 : BitVec 32 := Scalar.divsi v1352 c128_i32_557
  let c1_i32_563 : BitVec 32 := 1#32
  let v1368 : BitVec 32 := Scalar.subi v1353 c1_i32_563
  let v1369 : BitVec 32 := Scalar.select v1367 v1368 v1353
  let c128_i32_564 : BitVec 32 := 128#32
  let v1370 : BitVec 32 := Scalar.muli v1369 c128_i32_564
  let v1371 : BitVec 32 := Scalar.addi c24576_i32 v1370
  v1371

def k0_off50 (v1352 : BitVec 32) : Fin 2 → Nat :=
  let c0_577 : Index := 0#32
  let c24576_i32 : BitVec 32 := 24576#32
  let c0_i32_558 : BitVec 32 := 0#32
  let v1354 : BitVec 1 := Scalar.cmpi .sgt v1352 c0_i32_558
  let v1355 : BitVec 32 := Scalar.extui v1354
  let c0_i32_559 : BitVec 32 := 0#32
  let v1356 : BitVec 1 := Scalar.cmpi .slt v1352 c0_i32_559
  let v1357 : BitVec 32 := Scalar.extui v1356
  let v1358 : BitVec 32 := Scalar.subi v1355 v1357
  let c128_i32_557 : BitVec 32 := 128#32
  let c0_i32_560 : BitVec 32 := 0#32
  let v1359 : BitVec 1 := Scalar.cmpi .sgt c128_i32_557 c0_i32_560
  let v1360 : BitVec 32 := Scalar.extui v1359
  let c0_i32_561 : BitVec 32 := 0#32
  let v1361 : BitVec 1 := Scalar.cmpi .slt c128_i32_557 c0_i32_561
  let v1362 : BitVec 32 := Scalar.extui v1361
  let v1363 : BitVec 32 := Scalar.subi v1360 v1362
  let v1364 : BitVec 1 := Scalar.cmpi .ne v1358 v1363
  let v1365 : BitVec 32 := Scalar.remsi v1352 c128_i32_557
  let c0_i32_562 : BitVec 32 := 0#32
  let v1366 : BitVec 1 := Scalar.cmpi .ne v1365 c0_i32_562
  let v1367 : BitVec 1 := Scalar.andi v1364 v1366
  let v1353 : BitVec 32 := Scalar.divsi v1352 c128_i32_557
  let c1_i32_563 : BitVec 32 := 1#32
  let v1368 : BitVec 32 := Scalar.subi v1353 c1_i32_563
  let v1369 : BitVec 32 := Scalar.select v1367 v1368 v1353
  let c128_i32_564 : BitVec 32 := 128#32
  let v1370 : BitVec 32 := Scalar.muli v1369 c128_i32_564
  let v1371 : BitVec 32 := Scalar.addi c24576_i32 v1370
  let v1372 : BitVec 32 := v1371
  let v1395 : Index := Scalar.indexCast v1372
  ![0, v1395.toNat]

def k0_chk25 (v1352 : BitVec 32) : Prop :=
  (128 ∣ (k0_mult25 v1352).toNat) ∧
  (∀ a, (k0_off50 v1352) a + S64x128.size a ≤ S64x32768.size a)
theorem k0_mult25_dvd : ∀ (v1352 : BitVec 32) (k0_hw25 : k0_chk25 v1352), 128 ∣ (k0_mult25 v1352).toNat := fun v1352 k0_hw25 => k0_hw25.1
theorem k0_off50_inb : ∀ (v1352 : BitVec 32) (k0_hw25 : k0_chk25 v1352), ∀ a, (k0_off50 v1352) a + S64x128.size a ≤ S64x32768.size a := fun v1352 k0_hw25 => k0_hw25.2

def k0_off51 (i : grid0.Coords) : Fin 1 → Nat :=
  let arg0 : BitVec 32 := BitVec.ofNat 32 (i 0).val
  let c32_i32_579 : BitVec 32 := 32#32
  let v1405 : BitVec 32 := Scalar.muli arg0 c32_i32_579
  let c25_i32 : BitVec 32 := 25#32
  let v1406 : BitVec 32 := Scalar.addi v1405 c25_i32
  let v1407 : Index := Scalar.indexCast v1406
  ![v1407.toNat]
def k0_mult26 (v1408 : BitVec 32) : BitVec 32 :=
  let c25600_i32 : BitVec 32 := 25600#32
  let c0_i32_581 : BitVec 32 := 0#32
  let v1410 : BitVec 1 := Scalar.cmpi .sgt v1408 c0_i32_581
  let v1411 : BitVec 32 := Scalar.extui v1410
  let c0_i32_582 : BitVec 32 := 0#32
  let v1412 : BitVec 1 := Scalar.cmpi .slt v1408 c0_i32_582
  let v1413 : BitVec 32 := Scalar.extui v1412
  let v1414 : BitVec 32 := Scalar.subi v1411 v1413
  let c128_i32_580 : BitVec 32 := 128#32
  let c0_i32_583 : BitVec 32 := 0#32
  let v1415 : BitVec 1 := Scalar.cmpi .sgt c128_i32_580 c0_i32_583
  let v1416 : BitVec 32 := Scalar.extui v1415
  let c0_i32_584 : BitVec 32 := 0#32
  let v1417 : BitVec 1 := Scalar.cmpi .slt c128_i32_580 c0_i32_584
  let v1418 : BitVec 32 := Scalar.extui v1417
  let v1419 : BitVec 32 := Scalar.subi v1416 v1418
  let v1420 : BitVec 1 := Scalar.cmpi .ne v1414 v1419
  let v1421 : BitVec 32 := Scalar.remsi v1408 c128_i32_580
  let c0_i32_585 : BitVec 32 := 0#32
  let v1422 : BitVec 1 := Scalar.cmpi .ne v1421 c0_i32_585
  let v1423 : BitVec 1 := Scalar.andi v1420 v1422
  let v1409 : BitVec 32 := Scalar.divsi v1408 c128_i32_580
  let c1_i32_586 : BitVec 32 := 1#32
  let v1424 : BitVec 32 := Scalar.subi v1409 c1_i32_586
  let v1425 : BitVec 32 := Scalar.select v1423 v1424 v1409
  let c128_i32_587 : BitVec 32 := 128#32
  let v1426 : BitVec 32 := Scalar.muli v1425 c128_i32_587
  let v1427 : BitVec 32 := Scalar.addi c25600_i32 v1426
  v1427

def k0_off52 (v1408 : BitVec 32) : Fin 2 → Nat :=
  let c0_600 : Index := 0#32
  let c25600_i32 : BitVec 32 := 25600#32
  let c0_i32_581 : BitVec 32 := 0#32
  let v1410 : BitVec 1 := Scalar.cmpi .sgt v1408 c0_i32_581
  let v1411 : BitVec 32 := Scalar.extui v1410
  let c0_i32_582 : BitVec 32 := 0#32
  let v1412 : BitVec 1 := Scalar.cmpi .slt v1408 c0_i32_582
  let v1413 : BitVec 32 := Scalar.extui v1412
  let v1414 : BitVec 32 := Scalar.subi v1411 v1413
  let c128_i32_580 : BitVec 32 := 128#32
  let c0_i32_583 : BitVec 32 := 0#32
  let v1415 : BitVec 1 := Scalar.cmpi .sgt c128_i32_580 c0_i32_583
  let v1416 : BitVec 32 := Scalar.extui v1415
  let c0_i32_584 : BitVec 32 := 0#32
  let v1417 : BitVec 1 := Scalar.cmpi .slt c128_i32_580 c0_i32_584
  let v1418 : BitVec 32 := Scalar.extui v1417
  let v1419 : BitVec 32 := Scalar.subi v1416 v1418
  let v1420 : BitVec 1 := Scalar.cmpi .ne v1414 v1419
  let v1421 : BitVec 32 := Scalar.remsi v1408 c128_i32_580
  let c0_i32_585 : BitVec 32 := 0#32
  let v1422 : BitVec 1 := Scalar.cmpi .ne v1421 c0_i32_585
  let v1423 : BitVec 1 := Scalar.andi v1420 v1422
  let v1409 : BitVec 32 := Scalar.divsi v1408 c128_i32_580
  let c1_i32_586 : BitVec 32 := 1#32
  let v1424 : BitVec 32 := Scalar.subi v1409 c1_i32_586
  let v1425 : BitVec 32 := Scalar.select v1423 v1424 v1409
  let c128_i32_587 : BitVec 32 := 128#32
  let v1426 : BitVec 32 := Scalar.muli v1425 c128_i32_587
  let v1427 : BitVec 32 := Scalar.addi c25600_i32 v1426
  let v1428 : BitVec 32 := v1427
  let v1451 : Index := Scalar.indexCast v1428
  ![0, v1451.toNat]

def k0_chk26 (v1408 : BitVec 32) : Prop :=
  (128 ∣ (k0_mult26 v1408).toNat) ∧
  (∀ a, (k0_off52 v1408) a + S64x128.size a ≤ S64x32768.size a)
theorem k0_mult26_dvd : ∀ (v1408 : BitVec 32) (k0_hw26 : k0_chk26 v1408), 128 ∣ (k0_mult26 v1408).toNat := fun v1408 k0_hw26 => k0_hw26.1
theorem k0_off52_inb : ∀ (v1408 : BitVec 32) (k0_hw26 : k0_chk26 v1408), ∀ a, (k0_off52 v1408) a + S64x128.size a ≤ S64x32768.size a := fun v1408 k0_hw26 => k0_hw26.2

def k0_off53 (i : grid0.Coords) : Fin 1 → Nat :=
  let arg0 : BitVec 32 := BitVec.ofNat 32 (i 0).val
  let c32_i32_602 : BitVec 32 := 32#32
  let v1461 : BitVec 32 := Scalar.muli arg0 c32_i32_602
  let c26_i32 : BitVec 32 := 26#32
  let v1462 : BitVec 32 := Scalar.addi v1461 c26_i32
  let v1463 : Index := Scalar.indexCast v1462
  ![v1463.toNat]
def k0_mult27 (v1464 : BitVec 32) : BitVec 32 :=
  let c26624_i32 : BitVec 32 := 26624#32
  let c0_i32_604 : BitVec 32 := 0#32
  let v1466 : BitVec 1 := Scalar.cmpi .sgt v1464 c0_i32_604
  let v1467 : BitVec 32 := Scalar.extui v1466
  let c0_i32_605 : BitVec 32 := 0#32
  let v1468 : BitVec 1 := Scalar.cmpi .slt v1464 c0_i32_605
  let v1469 : BitVec 32 := Scalar.extui v1468
  let v1470 : BitVec 32 := Scalar.subi v1467 v1469
  let c128_i32_603 : BitVec 32 := 128#32
  let c0_i32_606 : BitVec 32 := 0#32
  let v1471 : BitVec 1 := Scalar.cmpi .sgt c128_i32_603 c0_i32_606
  let v1472 : BitVec 32 := Scalar.extui v1471
  let c0_i32_607 : BitVec 32 := 0#32
  let v1473 : BitVec 1 := Scalar.cmpi .slt c128_i32_603 c0_i32_607
  let v1474 : BitVec 32 := Scalar.extui v1473
  let v1475 : BitVec 32 := Scalar.subi v1472 v1474
  let v1476 : BitVec 1 := Scalar.cmpi .ne v1470 v1475
  let v1477 : BitVec 32 := Scalar.remsi v1464 c128_i32_603
  let c0_i32_608 : BitVec 32 := 0#32
  let v1478 : BitVec 1 := Scalar.cmpi .ne v1477 c0_i32_608
  let v1479 : BitVec 1 := Scalar.andi v1476 v1478
  let v1465 : BitVec 32 := Scalar.divsi v1464 c128_i32_603
  let c1_i32_609 : BitVec 32 := 1#32
  let v1480 : BitVec 32 := Scalar.subi v1465 c1_i32_609
  let v1481 : BitVec 32 := Scalar.select v1479 v1480 v1465
  let c128_i32_610 : BitVec 32 := 128#32
  let v1482 : BitVec 32 := Scalar.muli v1481 c128_i32_610
  let v1483 : BitVec 32 := Scalar.addi c26624_i32 v1482
  v1483

def k0_off54 (v1464 : BitVec 32) : Fin 2 → Nat :=
  let c0_623 : Index := 0#32
  let c26624_i32 : BitVec 32 := 26624#32
  let c0_i32_604 : BitVec 32 := 0#32
  let v1466 : BitVec 1 := Scalar.cmpi .sgt v1464 c0_i32_604
  let v1467 : BitVec 32 := Scalar.extui v1466
  let c0_i32_605 : BitVec 32 := 0#32
  let v1468 : BitVec 1 := Scalar.cmpi .slt v1464 c0_i32_605
  let v1469 : BitVec 32 := Scalar.extui v1468
  let v1470 : BitVec 32 := Scalar.subi v1467 v1469
  let c128_i32_603 : BitVec 32 := 128#32
  let c0_i32_606 : BitVec 32 := 0#32
  let v1471 : BitVec 1 := Scalar.cmpi .sgt c128_i32_603 c0_i32_606
  let v1472 : BitVec 32 := Scalar.extui v1471
  let c0_i32_607 : BitVec 32 := 0#32
  let v1473 : BitVec 1 := Scalar.cmpi .slt c128_i32_603 c0_i32_607
  let v1474 : BitVec 32 := Scalar.extui v1473
  let v1475 : BitVec 32 := Scalar.subi v1472 v1474
  let v1476 : BitVec 1 := Scalar.cmpi .ne v1470 v1475
  let v1477 : BitVec 32 := Scalar.remsi v1464 c128_i32_603
  let c0_i32_608 : BitVec 32 := 0#32
  let v1478 : BitVec 1 := Scalar.cmpi .ne v1477 c0_i32_608
  let v1479 : BitVec 1 := Scalar.andi v1476 v1478
  let v1465 : BitVec 32 := Scalar.divsi v1464 c128_i32_603
  let c1_i32_609 : BitVec 32 := 1#32
  let v1480 : BitVec 32 := Scalar.subi v1465 c1_i32_609
  let v1481 : BitVec 32 := Scalar.select v1479 v1480 v1465
  let c128_i32_610 : BitVec 32 := 128#32
  let v1482 : BitVec 32 := Scalar.muli v1481 c128_i32_610
  let v1483 : BitVec 32 := Scalar.addi c26624_i32 v1482
  let v1484 : BitVec 32 := v1483
  let v1507 : Index := Scalar.indexCast v1484
  ![0, v1507.toNat]

def k0_chk27 (v1464 : BitVec 32) : Prop :=
  (128 ∣ (k0_mult27 v1464).toNat) ∧
  (∀ a, (k0_off54 v1464) a + S64x128.size a ≤ S64x32768.size a)
theorem k0_mult27_dvd : ∀ (v1464 : BitVec 32) (k0_hw27 : k0_chk27 v1464), 128 ∣ (k0_mult27 v1464).toNat := fun v1464 k0_hw27 => k0_hw27.1
theorem k0_off54_inb : ∀ (v1464 : BitVec 32) (k0_hw27 : k0_chk27 v1464), ∀ a, (k0_off54 v1464) a + S64x128.size a ≤ S64x32768.size a := fun v1464 k0_hw27 => k0_hw27.2

def k0_off55 (i : grid0.Coords) : Fin 1 → Nat :=
  let arg0 : BitVec 32 := BitVec.ofNat 32 (i 0).val
  let c32_i32_625 : BitVec 32 := 32#32
  let v1517 : BitVec 32 := Scalar.muli arg0 c32_i32_625
  let c27_i32 : BitVec 32 := 27#32
  let v1518 : BitVec 32 := Scalar.addi v1517 c27_i32
  let v1519 : Index := Scalar.indexCast v1518
  ![v1519.toNat]
def k0_mult28 (v1520 : BitVec 32) : BitVec 32 :=
  let c27648_i32 : BitVec 32 := 27648#32
  let c0_i32_627 : BitVec 32 := 0#32
  let v1522 : BitVec 1 := Scalar.cmpi .sgt v1520 c0_i32_627
  let v1523 : BitVec 32 := Scalar.extui v1522
  let c0_i32_628 : BitVec 32 := 0#32
  let v1524 : BitVec 1 := Scalar.cmpi .slt v1520 c0_i32_628
  let v1525 : BitVec 32 := Scalar.extui v1524
  let v1526 : BitVec 32 := Scalar.subi v1523 v1525
  let c128_i32_626 : BitVec 32 := 128#32
  let c0_i32_629 : BitVec 32 := 0#32
  let v1527 : BitVec 1 := Scalar.cmpi .sgt c128_i32_626 c0_i32_629
  let v1528 : BitVec 32 := Scalar.extui v1527
  let c0_i32_630 : BitVec 32 := 0#32
  let v1529 : BitVec 1 := Scalar.cmpi .slt c128_i32_626 c0_i32_630
  let v1530 : BitVec 32 := Scalar.extui v1529
  let v1531 : BitVec 32 := Scalar.subi v1528 v1530
  let v1532 : BitVec 1 := Scalar.cmpi .ne v1526 v1531
  let v1533 : BitVec 32 := Scalar.remsi v1520 c128_i32_626
  let c0_i32_631 : BitVec 32 := 0#32
  let v1534 : BitVec 1 := Scalar.cmpi .ne v1533 c0_i32_631
  let v1535 : BitVec 1 := Scalar.andi v1532 v1534
  let v1521 : BitVec 32 := Scalar.divsi v1520 c128_i32_626
  let c1_i32_632 : BitVec 32 := 1#32
  let v1536 : BitVec 32 := Scalar.subi v1521 c1_i32_632
  let v1537 : BitVec 32 := Scalar.select v1535 v1536 v1521
  let c128_i32_633 : BitVec 32 := 128#32
  let v1538 : BitVec 32 := Scalar.muli v1537 c128_i32_633
  let v1539 : BitVec 32 := Scalar.addi c27648_i32 v1538
  v1539

def k0_off56 (v1520 : BitVec 32) : Fin 2 → Nat :=
  let c0_646 : Index := 0#32
  let c27648_i32 : BitVec 32 := 27648#32
  let c0_i32_627 : BitVec 32 := 0#32
  let v1522 : BitVec 1 := Scalar.cmpi .sgt v1520 c0_i32_627
  let v1523 : BitVec 32 := Scalar.extui v1522
  let c0_i32_628 : BitVec 32 := 0#32
  let v1524 : BitVec 1 := Scalar.cmpi .slt v1520 c0_i32_628
  let v1525 : BitVec 32 := Scalar.extui v1524
  let v1526 : BitVec 32 := Scalar.subi v1523 v1525
  let c128_i32_626 : BitVec 32 := 128#32
  let c0_i32_629 : BitVec 32 := 0#32
  let v1527 : BitVec 1 := Scalar.cmpi .sgt c128_i32_626 c0_i32_629
  let v1528 : BitVec 32 := Scalar.extui v1527
  let c0_i32_630 : BitVec 32 := 0#32
  let v1529 : BitVec 1 := Scalar.cmpi .slt c128_i32_626 c0_i32_630
  let v1530 : BitVec 32 := Scalar.extui v1529
  let v1531 : BitVec 32 := Scalar.subi v1528 v1530
  let v1532 : BitVec 1 := Scalar.cmpi .ne v1526 v1531
  let v1533 : BitVec 32 := Scalar.remsi v1520 c128_i32_626
  let c0_i32_631 : BitVec 32 := 0#32
  let v1534 : BitVec 1 := Scalar.cmpi .ne v1533 c0_i32_631
  let v1535 : BitVec 1 := Scalar.andi v1532 v1534
  let v1521 : BitVec 32 := Scalar.divsi v1520 c128_i32_626
  let c1_i32_632 : BitVec 32 := 1#32
  let v1536 : BitVec 32 := Scalar.subi v1521 c1_i32_632
  let v1537 : BitVec 32 := Scalar.select v1535 v1536 v1521
  let c128_i32_633 : BitVec 32 := 128#32
  let v1538 : BitVec 32 := Scalar.muli v1537 c128_i32_633
  let v1539 : BitVec 32 := Scalar.addi c27648_i32 v1538
  let v1540 : BitVec 32 := v1539
  let v1563 : Index := Scalar.indexCast v1540
  ![0, v1563.toNat]

def k0_chk28 (v1520 : BitVec 32) : Prop :=
  (128 ∣ (k0_mult28 v1520).toNat) ∧
  (∀ a, (k0_off56 v1520) a + S64x128.size a ≤ S64x32768.size a)
theorem k0_mult28_dvd : ∀ (v1520 : BitVec 32) (k0_hw28 : k0_chk28 v1520), 128 ∣ (k0_mult28 v1520).toNat := fun v1520 k0_hw28 => k0_hw28.1
theorem k0_off56_inb : ∀ (v1520 : BitVec 32) (k0_hw28 : k0_chk28 v1520), ∀ a, (k0_off56 v1520) a + S64x128.size a ≤ S64x32768.size a := fun v1520 k0_hw28 => k0_hw28.2

def k0_off57 (i : grid0.Coords) : Fin 1 → Nat :=
  let arg0 : BitVec 32 := BitVec.ofNat 32 (i 0).val
  let c32_i32_648 : BitVec 32 := 32#32
  let v1573 : BitVec 32 := Scalar.muli arg0 c32_i32_648
  let c28_i32 : BitVec 32 := 28#32
  let v1574 : BitVec 32 := Scalar.addi v1573 c28_i32
  let v1575 : Index := Scalar.indexCast v1574
  ![v1575.toNat]
def k0_mult29 (v1576 : BitVec 32) : BitVec 32 :=
  let c28672_i32 : BitVec 32 := 28672#32
  let c0_i32_650 : BitVec 32 := 0#32
  let v1578 : BitVec 1 := Scalar.cmpi .sgt v1576 c0_i32_650
  let v1579 : BitVec 32 := Scalar.extui v1578
  let c0_i32_651 : BitVec 32 := 0#32
  let v1580 : BitVec 1 := Scalar.cmpi .slt v1576 c0_i32_651
  let v1581 : BitVec 32 := Scalar.extui v1580
  let v1582 : BitVec 32 := Scalar.subi v1579 v1581
  let c128_i32_649 : BitVec 32 := 128#32
  let c0_i32_652 : BitVec 32 := 0#32
  let v1583 : BitVec 1 := Scalar.cmpi .sgt c128_i32_649 c0_i32_652
  let v1584 : BitVec 32 := Scalar.extui v1583
  let c0_i32_653 : BitVec 32 := 0#32
  let v1585 : BitVec 1 := Scalar.cmpi .slt c128_i32_649 c0_i32_653
  let v1586 : BitVec 32 := Scalar.extui v1585
  let v1587 : BitVec 32 := Scalar.subi v1584 v1586
  let v1588 : BitVec 1 := Scalar.cmpi .ne v1582 v1587
  let v1589 : BitVec 32 := Scalar.remsi v1576 c128_i32_649
  let c0_i32_654 : BitVec 32 := 0#32
  let v1590 : BitVec 1 := Scalar.cmpi .ne v1589 c0_i32_654
  let v1591 : BitVec 1 := Scalar.andi v1588 v1590
  let v1577 : BitVec 32 := Scalar.divsi v1576 c128_i32_649
  let c1_i32_655 : BitVec 32 := 1#32
  let v1592 : BitVec 32 := Scalar.subi v1577 c1_i32_655
  let v1593 : BitVec 32 := Scalar.select v1591 v1592 v1577
  let c128_i32_656 : BitVec 32 := 128#32
  let v1594 : BitVec 32 := Scalar.muli v1593 c128_i32_656
  let v1595 : BitVec 32 := Scalar.addi c28672_i32 v1594
  v1595

def k0_off58 (v1576 : BitVec 32) : Fin 2 → Nat :=
  let c0_669 : Index := 0#32
  let c28672_i32 : BitVec 32 := 28672#32
  let c0_i32_650 : BitVec 32 := 0#32
  let v1578 : BitVec 1 := Scalar.cmpi .sgt v1576 c0_i32_650
  let v1579 : BitVec 32 := Scalar.extui v1578
  let c0_i32_651 : BitVec 32 := 0#32
  let v1580 : BitVec 1 := Scalar.cmpi .slt v1576 c0_i32_651
  let v1581 : BitVec 32 := Scalar.extui v1580
  let v1582 : BitVec 32 := Scalar.subi v1579 v1581
  let c128_i32_649 : BitVec 32 := 128#32
  let c0_i32_652 : BitVec 32 := 0#32
  let v1583 : BitVec 1 := Scalar.cmpi .sgt c128_i32_649 c0_i32_652
  let v1584 : BitVec 32 := Scalar.extui v1583
  let c0_i32_653 : BitVec 32 := 0#32
  let v1585 : BitVec 1 := Scalar.cmpi .slt c128_i32_649 c0_i32_653
  let v1586 : BitVec 32 := Scalar.extui v1585
  let v1587 : BitVec 32 := Scalar.subi v1584 v1586
  let v1588 : BitVec 1 := Scalar.cmpi .ne v1582 v1587
  let v1589 : BitVec 32 := Scalar.remsi v1576 c128_i32_649
  let c0_i32_654 : BitVec 32 := 0#32
  let v1590 : BitVec 1 := Scalar.cmpi .ne v1589 c0_i32_654
  let v1591 : BitVec 1 := Scalar.andi v1588 v1590
  let v1577 : BitVec 32 := Scalar.divsi v1576 c128_i32_649
  let c1_i32_655 : BitVec 32 := 1#32
  let v1592 : BitVec 32 := Scalar.subi v1577 c1_i32_655
  let v1593 : BitVec 32 := Scalar.select v1591 v1592 v1577
  let c128_i32_656 : BitVec 32 := 128#32
  let v1594 : BitVec 32 := Scalar.muli v1593 c128_i32_656
  let v1595 : BitVec 32 := Scalar.addi c28672_i32 v1594
  let v1596 : BitVec 32 := v1595
  let v1619 : Index := Scalar.indexCast v1596
  ![0, v1619.toNat]

def k0_chk29 (v1576 : BitVec 32) : Prop :=
  (128 ∣ (k0_mult29 v1576).toNat) ∧
  (∀ a, (k0_off58 v1576) a + S64x128.size a ≤ S64x32768.size a)
theorem k0_mult29_dvd : ∀ (v1576 : BitVec 32) (k0_hw29 : k0_chk29 v1576), 128 ∣ (k0_mult29 v1576).toNat := fun v1576 k0_hw29 => k0_hw29.1
theorem k0_off58_inb : ∀ (v1576 : BitVec 32) (k0_hw29 : k0_chk29 v1576), ∀ a, (k0_off58 v1576) a + S64x128.size a ≤ S64x32768.size a := fun v1576 k0_hw29 => k0_hw29.2

def k0_off59 (i : grid0.Coords) : Fin 1 → Nat :=
  let arg0 : BitVec 32 := BitVec.ofNat 32 (i 0).val
  let c32_i32_671 : BitVec 32 := 32#32
  let v1629 : BitVec 32 := Scalar.muli arg0 c32_i32_671
  let c29_i32 : BitVec 32 := 29#32
  let v1630 : BitVec 32 := Scalar.addi v1629 c29_i32
  let v1631 : Index := Scalar.indexCast v1630
  ![v1631.toNat]
def k0_mult30 (v1632 : BitVec 32) : BitVec 32 :=
  let c29696_i32 : BitVec 32 := 29696#32
  let c0_i32_673 : BitVec 32 := 0#32
  let v1634 : BitVec 1 := Scalar.cmpi .sgt v1632 c0_i32_673
  let v1635 : BitVec 32 := Scalar.extui v1634
  let c0_i32_674 : BitVec 32 := 0#32
  let v1636 : BitVec 1 := Scalar.cmpi .slt v1632 c0_i32_674
  let v1637 : BitVec 32 := Scalar.extui v1636
  let v1638 : BitVec 32 := Scalar.subi v1635 v1637
  let c128_i32_672 : BitVec 32 := 128#32
  let c0_i32_675 : BitVec 32 := 0#32
  let v1639 : BitVec 1 := Scalar.cmpi .sgt c128_i32_672 c0_i32_675
  let v1640 : BitVec 32 := Scalar.extui v1639
  let c0_i32_676 : BitVec 32 := 0#32
  let v1641 : BitVec 1 := Scalar.cmpi .slt c128_i32_672 c0_i32_676
  let v1642 : BitVec 32 := Scalar.extui v1641
  let v1643 : BitVec 32 := Scalar.subi v1640 v1642
  let v1644 : BitVec 1 := Scalar.cmpi .ne v1638 v1643
  let v1645 : BitVec 32 := Scalar.remsi v1632 c128_i32_672
  let c0_i32_677 : BitVec 32 := 0#32
  let v1646 : BitVec 1 := Scalar.cmpi .ne v1645 c0_i32_677
  let v1647 : BitVec 1 := Scalar.andi v1644 v1646
  let v1633 : BitVec 32 := Scalar.divsi v1632 c128_i32_672
  let c1_i32_678 : BitVec 32 := 1#32
  let v1648 : BitVec 32 := Scalar.subi v1633 c1_i32_678
  let v1649 : BitVec 32 := Scalar.select v1647 v1648 v1633
  let c128_i32_679 : BitVec 32 := 128#32
  let v1650 : BitVec 32 := Scalar.muli v1649 c128_i32_679
  let v1651 : BitVec 32 := Scalar.addi c29696_i32 v1650
  v1651

def k0_off60 (v1632 : BitVec 32) : Fin 2 → Nat :=
  let c0_692 : Index := 0#32
  let c29696_i32 : BitVec 32 := 29696#32
  let c0_i32_673 : BitVec 32 := 0#32
  let v1634 : BitVec 1 := Scalar.cmpi .sgt v1632 c0_i32_673
  let v1635 : BitVec 32 := Scalar.extui v1634
  let c0_i32_674 : BitVec 32 := 0#32
  let v1636 : BitVec 1 := Scalar.cmpi .slt v1632 c0_i32_674
  let v1637 : BitVec 32 := Scalar.extui v1636
  let v1638 : BitVec 32 := Scalar.subi v1635 v1637
  let c128_i32_672 : BitVec 32 := 128#32
  let c0_i32_675 : BitVec 32 := 0#32
  let v1639 : BitVec 1 := Scalar.cmpi .sgt c128_i32_672 c0_i32_675
  let v1640 : BitVec 32 := Scalar.extui v1639
  let c0_i32_676 : BitVec 32 := 0#32
  let v1641 : BitVec 1 := Scalar.cmpi .slt c128_i32_672 c0_i32_676
  let v1642 : BitVec 32 := Scalar.extui v1641
  let v1643 : BitVec 32 := Scalar.subi v1640 v1642
  let v1644 : BitVec 1 := Scalar.cmpi .ne v1638 v1643
  let v1645 : BitVec 32 := Scalar.remsi v1632 c128_i32_672
  let c0_i32_677 : BitVec 32 := 0#32
  let v1646 : BitVec 1 := Scalar.cmpi .ne v1645 c0_i32_677
  let v1647 : BitVec 1 := Scalar.andi v1644 v1646
  let v1633 : BitVec 32 := Scalar.divsi v1632 c128_i32_672
  let c1_i32_678 : BitVec 32 := 1#32
  let v1648 : BitVec 32 := Scalar.subi v1633 c1_i32_678
  let v1649 : BitVec 32 := Scalar.select v1647 v1648 v1633
  let c128_i32_679 : BitVec 32 := 128#32
  let v1650 : BitVec 32 := Scalar.muli v1649 c128_i32_679
  let v1651 : BitVec 32 := Scalar.addi c29696_i32 v1650
  let v1652 : BitVec 32 := v1651
  let v1675 : Index := Scalar.indexCast v1652
  ![0, v1675.toNat]

def k0_chk30 (v1632 : BitVec 32) : Prop :=
  (128 ∣ (k0_mult30 v1632).toNat) ∧
  (∀ a, (k0_off60 v1632) a + S64x128.size a ≤ S64x32768.size a)
theorem k0_mult30_dvd : ∀ (v1632 : BitVec 32) (k0_hw30 : k0_chk30 v1632), 128 ∣ (k0_mult30 v1632).toNat := fun v1632 k0_hw30 => k0_hw30.1
theorem k0_off60_inb : ∀ (v1632 : BitVec 32) (k0_hw30 : k0_chk30 v1632), ∀ a, (k0_off60 v1632) a + S64x128.size a ≤ S64x32768.size a := fun v1632 k0_hw30 => k0_hw30.2

def k0_off61 (i : grid0.Coords) : Fin 1 → Nat :=
  let arg0 : BitVec 32 := BitVec.ofNat 32 (i 0).val
  let c32_i32_694 : BitVec 32 := 32#32
  let v1685 : BitVec 32 := Scalar.muli arg0 c32_i32_694
  let c30_i32 : BitVec 32 := 30#32
  let v1686 : BitVec 32 := Scalar.addi v1685 c30_i32
  let v1687 : Index := Scalar.indexCast v1686
  ![v1687.toNat]
def k0_mult31 (v1688 : BitVec 32) : BitVec 32 :=
  let c30720_i32 : BitVec 32 := 30720#32
  let c0_i32_696 : BitVec 32 := 0#32
  let v1690 : BitVec 1 := Scalar.cmpi .sgt v1688 c0_i32_696
  let v1691 : BitVec 32 := Scalar.extui v1690
  let c0_i32_697 : BitVec 32 := 0#32
  let v1692 : BitVec 1 := Scalar.cmpi .slt v1688 c0_i32_697
  let v1693 : BitVec 32 := Scalar.extui v1692
  let v1694 : BitVec 32 := Scalar.subi v1691 v1693
  let c128_i32_695 : BitVec 32 := 128#32
  let c0_i32_698 : BitVec 32 := 0#32
  let v1695 : BitVec 1 := Scalar.cmpi .sgt c128_i32_695 c0_i32_698
  let v1696 : BitVec 32 := Scalar.extui v1695
  let c0_i32_699 : BitVec 32 := 0#32
  let v1697 : BitVec 1 := Scalar.cmpi .slt c128_i32_695 c0_i32_699
  let v1698 : BitVec 32 := Scalar.extui v1697
  let v1699 : BitVec 32 := Scalar.subi v1696 v1698
  let v1700 : BitVec 1 := Scalar.cmpi .ne v1694 v1699
  let v1701 : BitVec 32 := Scalar.remsi v1688 c128_i32_695
  let c0_i32_700 : BitVec 32 := 0#32
  let v1702 : BitVec 1 := Scalar.cmpi .ne v1701 c0_i32_700
  let v1703 : BitVec 1 := Scalar.andi v1700 v1702
  let v1689 : BitVec 32 := Scalar.divsi v1688 c128_i32_695
  let c1_i32_701 : BitVec 32 := 1#32
  let v1704 : BitVec 32 := Scalar.subi v1689 c1_i32_701
  let v1705 : BitVec 32 := Scalar.select v1703 v1704 v1689
  let c128_i32_702 : BitVec 32 := 128#32
  let v1706 : BitVec 32 := Scalar.muli v1705 c128_i32_702
  let v1707 : BitVec 32 := Scalar.addi c30720_i32 v1706
  v1707

def k0_off62 (v1688 : BitVec 32) : Fin 2 → Nat :=
  let c0_715 : Index := 0#32
  let c30720_i32 : BitVec 32 := 30720#32
  let c0_i32_696 : BitVec 32 := 0#32
  let v1690 : BitVec 1 := Scalar.cmpi .sgt v1688 c0_i32_696
  let v1691 : BitVec 32 := Scalar.extui v1690
  let c0_i32_697 : BitVec 32 := 0#32
  let v1692 : BitVec 1 := Scalar.cmpi .slt v1688 c0_i32_697
  let v1693 : BitVec 32 := Scalar.extui v1692
  let v1694 : BitVec 32 := Scalar.subi v1691 v1693
  let c128_i32_695 : BitVec 32 := 128#32
  let c0_i32_698 : BitVec 32 := 0#32
  let v1695 : BitVec 1 := Scalar.cmpi .sgt c128_i32_695 c0_i32_698
  let v1696 : BitVec 32 := Scalar.extui v1695
  let c0_i32_699 : BitVec 32 := 0#32
  let v1697 : BitVec 1 := Scalar.cmpi .slt c128_i32_695 c0_i32_699
  let v1698 : BitVec 32 := Scalar.extui v1697
  let v1699 : BitVec 32 := Scalar.subi v1696 v1698
  let v1700 : BitVec 1 := Scalar.cmpi .ne v1694 v1699
  let v1701 : BitVec 32 := Scalar.remsi v1688 c128_i32_695
  let c0_i32_700 : BitVec 32 := 0#32
  let v1702 : BitVec 1 := Scalar.cmpi .ne v1701 c0_i32_700
  let v1703 : BitVec 1 := Scalar.andi v1700 v1702
  let v1689 : BitVec 32 := Scalar.divsi v1688 c128_i32_695
  let c1_i32_701 : BitVec 32 := 1#32
  let v1704 : BitVec 32 := Scalar.subi v1689 c1_i32_701
  let v1705 : BitVec 32 := Scalar.select v1703 v1704 v1689
  let c128_i32_702 : BitVec 32 := 128#32
  let v1706 : BitVec 32 := Scalar.muli v1705 c128_i32_702
  let v1707 : BitVec 32 := Scalar.addi c30720_i32 v1706
  let v1708 : BitVec 32 := v1707
  let v1731 : Index := Scalar.indexCast v1708
  ![0, v1731.toNat]

def k0_chk31 (v1688 : BitVec 32) : Prop :=
  (128 ∣ (k0_mult31 v1688).toNat) ∧
  (∀ a, (k0_off62 v1688) a + S64x128.size a ≤ S64x32768.size a)
theorem k0_mult31_dvd : ∀ (v1688 : BitVec 32) (k0_hw31 : k0_chk31 v1688), 128 ∣ (k0_mult31 v1688).toNat := fun v1688 k0_hw31 => k0_hw31.1
theorem k0_off62_inb : ∀ (v1688 : BitVec 32) (k0_hw31 : k0_chk31 v1688), ∀ a, (k0_off62 v1688) a + S64x128.size a ≤ S64x32768.size a := fun v1688 k0_hw31 => k0_hw31.2

def k0_off63 (i : grid0.Coords) : Fin 1 → Nat :=
  let arg0 : BitVec 32 := BitVec.ofNat 32 (i 0).val
  let c32_i32_717 : BitVec 32 := 32#32
  let v1741 : BitVec 32 := Scalar.muli arg0 c32_i32_717
  let c31_i32 : BitVec 32 := 31#32
  let v1742 : BitVec 32 := Scalar.addi v1741 c31_i32
  let v1743 : Index := Scalar.indexCast v1742
  ![v1743.toNat]
def k0_mult32 (v1744 : BitVec 32) : BitVec 32 :=
  let c31744_i32 : BitVec 32 := 31744#32
  let c0_i32_719 : BitVec 32 := 0#32
  let v1746 : BitVec 1 := Scalar.cmpi .sgt v1744 c0_i32_719
  let v1747 : BitVec 32 := Scalar.extui v1746
  let c0_i32_720 : BitVec 32 := 0#32
  let v1748 : BitVec 1 := Scalar.cmpi .slt v1744 c0_i32_720
  let v1749 : BitVec 32 := Scalar.extui v1748
  let v1750 : BitVec 32 := Scalar.subi v1747 v1749
  let c128_i32_718 : BitVec 32 := 128#32
  let c0_i32_721 : BitVec 32 := 0#32
  let v1751 : BitVec 1 := Scalar.cmpi .sgt c128_i32_718 c0_i32_721
  let v1752 : BitVec 32 := Scalar.extui v1751
  let c0_i32_722 : BitVec 32 := 0#32
  let v1753 : BitVec 1 := Scalar.cmpi .slt c128_i32_718 c0_i32_722
  let v1754 : BitVec 32 := Scalar.extui v1753
  let v1755 : BitVec 32 := Scalar.subi v1752 v1754
  let v1756 : BitVec 1 := Scalar.cmpi .ne v1750 v1755
  let v1757 : BitVec 32 := Scalar.remsi v1744 c128_i32_718
  let c0_i32_723 : BitVec 32 := 0#32
  let v1758 : BitVec 1 := Scalar.cmpi .ne v1757 c0_i32_723
  let v1759 : BitVec 1 := Scalar.andi v1756 v1758
  let v1745 : BitVec 32 := Scalar.divsi v1744 c128_i32_718
  let c1_i32_724 : BitVec 32 := 1#32
  let v1760 : BitVec 32 := Scalar.subi v1745 c1_i32_724
  let v1761 : BitVec 32 := Scalar.select v1759 v1760 v1745
  let c128_i32_725 : BitVec 32 := 128#32
  let v1762 : BitVec 32 := Scalar.muli v1761 c128_i32_725
  let v1763 : BitVec 32 := Scalar.addi c31744_i32 v1762
  v1763

def k0_off64 (v1744 : BitVec 32) : Fin 2 → Nat :=
  let c0_738 : Index := 0#32
  let c31744_i32 : BitVec 32 := 31744#32
  let c0_i32_719 : BitVec 32 := 0#32
  let v1746 : BitVec 1 := Scalar.cmpi .sgt v1744 c0_i32_719
  let v1747 : BitVec 32 := Scalar.extui v1746
  let c0_i32_720 : BitVec 32 := 0#32
  let v1748 : BitVec 1 := Scalar.cmpi .slt v1744 c0_i32_720
  let v1749 : BitVec 32 := Scalar.extui v1748
  let v1750 : BitVec 32 := Scalar.subi v1747 v1749
  let c128_i32_718 : BitVec 32 := 128#32
  let c0_i32_721 : BitVec 32 := 0#32
  let v1751 : BitVec 1 := Scalar.cmpi .sgt c128_i32_718 c0_i32_721
  let v1752 : BitVec 32 := Scalar.extui v1751
  let c0_i32_722 : BitVec 32 := 0#32
  let v1753 : BitVec 1 := Scalar.cmpi .slt c128_i32_718 c0_i32_722
  let v1754 : BitVec 32 := Scalar.extui v1753
  let v1755 : BitVec 32 := Scalar.subi v1752 v1754
  let v1756 : BitVec 1 := Scalar.cmpi .ne v1750 v1755
  let v1757 : BitVec 32 := Scalar.remsi v1744 c128_i32_718
  let c0_i32_723 : BitVec 32 := 0#32
  let v1758 : BitVec 1 := Scalar.cmpi .ne v1757 c0_i32_723
  let v1759 : BitVec 1 := Scalar.andi v1756 v1758
  let v1745 : BitVec 32 := Scalar.divsi v1744 c128_i32_718
  let c1_i32_724 : BitVec 32 := 1#32
  let v1760 : BitVec 32 := Scalar.subi v1745 c1_i32_724
  let v1761 : BitVec 32 := Scalar.select v1759 v1760 v1745
  let c128_i32_725 : BitVec 32 := 128#32
  let v1762 : BitVec 32 := Scalar.muli v1761 c128_i32_725
  let v1763 : BitVec 32 := Scalar.addi c31744_i32 v1762
  let v1764 : BitVec 32 := v1763
  let v1787 : Index := Scalar.indexCast v1764
  ![0, v1787.toNat]

def k0_chk32 (v1744 : BitVec 32) : Prop :=
  (128 ∣ (k0_mult32 v1744).toNat) ∧
  (∀ a, (k0_off64 v1744) a + S64x128.size a ≤ S64x32768.size a)
theorem k0_mult32_dvd : ∀ (v1744 : BitVec 32) (k0_hw32 : k0_chk32 v1744), 128 ∣ (k0_mult32 v1744).toNat := fun v1744 k0_hw32 => k0_hw32.1
theorem k0_off64_inb : ∀ (v1744 : BitVec 32) (k0_hw32 : k0_chk32 v1744), ∀ a, (k0_off64 v1744) a + S64x128.size a ≤ S64x32768.size a := fun v1744 k0_hw32 => k0_hw32.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1024x64 : Shape := ⟨2, ![1024, 64]⟩
abbrev S1024 : Shape := ⟨1, ![1024]⟩
abbrev S1048576x64 : Shape := ⟨2, ![1048576, 64]⟩
abbrev S_ : Shape := ⟨0, ![]⟩
abbrev S1024x1 : Shape := ⟨2, ![1024, 1]⟩

abbrev nBuf : Space → Nat
  | .hbm => 85
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S1048576x64, .f32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1048576x64, .f32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S_, .i1⟩
  | .hbm, ⟨46, _⟩ => ⟨S1024, .i1⟩
  | .hbm, ⟨47, _⟩ => ⟨S1024, .i1⟩
  | .hbm, ⟨48, _⟩ => ⟨S1024, .i1⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S_, .i32⟩
  | .hbm, ⟨56, _⟩ => ⟨S1024, .i32⟩
  | .hbm, ⟨57, _⟩ => ⟨S1024, .i32⟩
  | .hbm, ⟨58, _⟩ => ⟨S1024, .i32⟩
  | .hbm, ⟨59, _⟩ => ⟨S1024x1, .i32⟩
  | .hbm, ⟨60, _⟩ => ⟨S1024, .i32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S1024, .i32⟩
  | .hbm, ⟨70, _⟩ => ⟨S_, .i32⟩
  | .hbm, ⟨71, _⟩ => ⟨S1024, .i32⟩
  | .hbm, ⟨72, _⟩ => ⟨S1024, .i32⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S_, .i32⟩
  | .hbm, ⟨77, _⟩ => ⟨S1024, .i32⟩
  | .hbm, ⟨78, _⟩ => ⟨S1024, .i1⟩
  | .hbm, ⟨79, _⟩ => ⟨S_, .i32⟩
  | .hbm, ⟨80, _⟩ => ⟨S1024, .i32⟩
  | .hbm, ⟨81, _⟩ => ⟨S1024, .i32⟩
  | .hbm, ⟨82, _⟩ => ⟨S1024, .i32⟩
  | .hbm, ⟨83, _⟩ => ⟨S1024x1, .i32⟩
  | .hbm, ⟨84, _⟩ => ⟨S1024, .i32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_c_1 : Ref sig .tc := ⟨.hbm, 38, rfl⟩
abbrev main_call0_v5 : Ref sig .tc := ⟨.hbm, 39, rfl⟩
abbrev main_call0_v6 : Ref sig .tc := ⟨.hbm, 40, rfl⟩
abbrev main_call0_c_2 : Ref sig .tc := ⟨.hbm, 41, rfl⟩
abbrev main_call0_v7 : Ref sig .tc := ⟨.hbm, 42, rfl⟩
abbrev main_call0_v8 : Ref sig .tc := ⟨.hbm, 43, rfl⟩
abbrev main_call0_c_3 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_v19 : Ref sig .tc := ⟨.hbm, 51, rfl⟩
abbrev main_c_6 : Ref sig .tc := ⟨.hbm, 52, rfl⟩
abbrev main_v20 : Ref sig .tc := ⟨.hbm, 53, rfl⟩
abbrev main_v21 : Ref sig .tc := ⟨.hbm, 54, rfl⟩
abbrev main_c_7 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_8 : Ref sig .tc := ⟨.hbm, 61, rfl⟩
abbrev main_v27 : Ref sig .tc := ⟨.hbm, 62, rfl⟩
abbrev main_v28 : Ref sig .tc := ⟨.hbm, 63, rfl⟩
abbrev main_c_9 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_10 : Ref sig .tc := ⟨.hbm, 70, rfl⟩
abbrev main_v34 : Ref sig .tc := ⟨.hbm, 71, rfl⟩
abbrev main_v35 : Ref sig .tc := ⟨.hbm, 72, rfl⟩
abbrev main_c_11 : Ref sig .tc := ⟨.hbm, 73, rfl⟩
abbrev main_v36 : Ref sig .tc := ⟨.hbm, 74, rfl⟩
abbrev main_v37 : Ref sig .tc := ⟨.hbm, 75, rfl⟩
abbrev main_c_12 : Ref sig .tc := ⟨.hbm, 76, rfl⟩
abbrev main_v38 : Ref sig .tc := ⟨.hbm, 77, rfl⟩
abbrev main_v39 : Ref sig .tc := ⟨.hbm, 78, rfl⟩
abbrev main_c_13 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩

abbrev nD : Nat := 1
abbrev τ : Topo := Topo.v7x

variable {F : FTy → Type} [FloatOps F]
-- ==== Proof.Same.lean ====
/- The compiled program and its idealization are one text over any floats: what is proved of the runs of the one holds of the other's. -/
module

public import proofs.«01_k».proof.Proof.Gen.Kernel
public import proofs.«01_k».proof.Proof.Gen.KernelIdeal

@[expose] public section

noncomputable section

namespace Cert.Enqueue

open Idealize.ShloMosaic Idealize.SL.Sem

variable {F : FTy → Type} [FloatOps F]

set_option smartUnfolding false in
/-- The two programs have the same kernel body. -/
theorem bodies_same : Cert.Kernel.defs₀ (F := F) = Cert.KernelIdeal.defs₀ (F := F) := by
  unfold Cert.Kernel.defs₀ Cert.KernelIdeal.defs₀
  with_unfolding_all rfl

/-- The two programs have the same body table, the pipeline around the kernel included. -/
theorem defs_same : Cert.Kernel.defs (F := F) = Cert.KernelIdeal.defs (F := F) :=
  congrArg (fun d => Pipeline.defs (Cert.KernelIdeal.pcfgs (F := F)) d) bodies_same

set_option maxRecDepth 8192 in
/-- The two programs have the same host code. -/
theorem main_same : Cert.Kernel.main (F := F) = Cert.KernelIdeal.main (F := F) := rfl

/-- What every run of the idealization ends with, every run of the compiled program ends with, over the same floats. -/
theorem run_same (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg₂ (fun d p => θ_run d (onTc (τ := Cert.KernelIdeal.τ) p) s Q) defs_same main_same).mpr h

end Cert.Enqueue

end
-- ==== Proof.Kit.lean ====
/- What the launch of the idealized kernel is stated over: @main around the region, the table read off the launch memory,
   the windows' blocks, the staging memrefs, when each output is written back. The set-up follows the
   generated frame modules. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Kit

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines before the region allocate nothing. -/
theorem hostOps0_fresh : (hostOps0 : List (HloOp τ sig (Elt F))).Forall fun op => op.fresh = ∅ := by
  simp only [List.Forall]; repeat' constructor
/-- The host lines after the region allocate nothing. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes an argument: the region finds each as launched. -/
theorem V_of_arg (c : Dev nD) (b : Ref sig .tc) (hb : b ≠ main_v0 ∧ b ≠ main_v1 ∧ b ≠ main_v2 ∧ b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2⟩))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; no index map here reads a table, so it is trivial. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline at the launch memory's table. -/
abbrev cfgM (hO : Ok m) : Pipeline.Cfg sig Λ₀ := cfg0 (adm m hO)

/-- Each table as the body is handed it: its whole buffer as a memref, and that memref's wholeness. -/
abbrev tbM0_0 : Memref sig .tc .smem S1024 .i32 := Memref.whole main_arg3
/-- It is the whole of it. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The assertion that the table holds `f`, at half the full share. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes an argument that no window stages, and none before it: it ends as launched. -/
theorem W_of_arg (hO : Ok m) (dats : (p : Fin _) → (c : Dev nD) → Dat τ (Elt F) Unit ℕ (UR sig nD τ) ℕ ((Pipeline.pin pcfgs fun _ => adm m hO) p) c) (c : Dev nD)
    (b : Ref sig .tc) (hb : b ≠ main_v0 ∧ b ≠ main_v1 ∧ b ≠ main_v2 ∧ b ≠ main_v3) (hb' : b ≠ main_v5 ∧ b ≠ main_v6 ∧ b ≠ main_v7)
    (hw : ∀ w, Pipeline.arrRef spec0 w ≠ b) :
    Pipeline.afterTail pcfgs (fun _ => adm m hO) dats 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne hb'.1, StableHlo.devRef_ne_of_ne hb'.2.1, StableHlo.devRef_ne_of_ne hb'.2.2⟩)),
    Pipeline.withArrays_of_ne _ c (V0 m c) _ b (by exact hw)]
  exact V_of_arg m c b hb

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S64x1024 .f32 := spec0_0.stage ((cfgM m hO).slots t 0)
/-- Window 0's staging memref is whole. -/
abbrev hs0_0 (hO : Ok m) (t : Fin (cfgM m hO).N) : (ms0_0 m hO t).IsWhole := hstage0_0 (((cfgM m hO).slots t 0).cast nbuf0_0)
/-- Window 1's current staging memref. -/
abbrev ms0_1 (hO : Ok m) (t : Fin (cfgM m hO).N) : Memref sig .tc .vmem S64x32768 .f32 := spec0_1.stage ((cfgM m hO).slots t 1)
/-- Window 1's staging memref is whole. -/
abbrev hs0_1 (hO : Ok m) (t : Fin (cfgM m hO).N) : (ms0_1 m hO t).IsWhole := hstage0_1 (((cfgM m hO).slots t 1).cast nbuf0_1)
/-- Window 2's current staging memref. -/
abbrev ms0_2 (hO : Ok m) (t : Fin (cfgM m hO).N) : Memref sig .tc .vmem S8x128 .i32 := spec0_2.stage ((cfgM m hO).slots t 2)
/-- Window 2's staging memref is whole. -/
abbrev hs0_2 (hO : Ok m) (t : Fin (cfgM m hO).N) : (ms0_2 m hO t).IsWhole := hstage0_2 (((cfgM m hO).slots t 2).cast nbuf0_2)
/-- Window 3's current staging memref. -/
abbrev ms0_3 (hO : Ok m) (t : Fin (cfgM m hO).N) : Memref sig .tc .vmem S8x128 .i32 := spec0_3.stage ((cfgM m hO).slots t 3)
/-- Window 3's staging memref is whole. -/
abbrev hs0_3 (hO : Ok m) (t : Fin (cfgM m hO).N) : (ms0_3 m hO t).IsWhole := hstage0_3 (((cfgM m hO).slots t 3).cast nbuf0_3)
/-- Window 4's current staging memref. -/
abbrev ms0_4 (hO : Ok m) (t : Fin (cfgM m hO).N) : Memref sig .tc .vmem S64x32768 .f32 := spec0_4.stage ((cfgM m hO).slots t 4)
/-- Window 4's staging memref is whole. -/
abbrev hs0_4 (hO : Ok m) (t : Fin (cfgM m hO).N) : (ms0_4 m hO t).IsWhole := hstage0_4 (((cfgM m hO).slots t 4).cast nbuf0_4)
/-- Window 5's current staging memref. -/
abbrev ms0_5 (hO : Ok m) (t : Fin (cfgM m hO).N) : Memref sig .tc .vmem S8x128 .i32 := spec0_5.stage ((cfgM m hO).slots t 5)
/-- Window 5's staging memref is whole. -/
abbrev hs0_5 (hO : Ok m) (t : Fin (cfgM m hO).N) : (ms0_5 m hO t).IsWhole := hstage0_5 (((cfgM m hO).slots t 5).cast nbuf0_5)
/-- Window 6's current staging memref. -/
abbrev ms0_6 (hO : Ok m) (t : Fin (cfgM m hO).N) : Memref sig .tc .vmem S8x128 .i32 := spec0_6.stage ((cfgM m hO).slots t 6)
/-- Window 6's staging memref is whole. -/
abbrev hs0_6 (hO : Ok m) (t : Fin (cfgM m hO).N) : (ms0_6 m hO t).IsWhole := hstage0_6 (((cfgM m hO).slots t 6).cast nbuf0_6)

/-! ## When the outputs are written back, and the body at a point -/

/-- Window 4 (result 0 (%4#0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 1 (fun _ => rfl) (by decide)) (P := 1) (m := 0) (by decide) rfl t).mpr (Nat.mod_one _) : ∀ t : Fin grid0.N, Pipeline.Window.flushOf grid0 true cc0_transform_4 t = true)
/-- Window 5 (result 1 (%4#1)) is written back at the last point only, at any contents of the tables (its index map reads none). -/
theorem flush0_5 (a : (pcfg0 (F := F)).Adm) : ∀ t : Fin (cfg0 a).N, ((cfg0 a).win 5).flush t = true ↔ t.val % 32 = 31 :=
  (fun t => Pipeline.Window.flushOf_const cc0_transform_5 (fun _ _ => rfl) (n := 32) (by decide) rfl t : ∀ t : Fin grid0.N, Pipeline.Window.flushOf grid0 true cc0_transform_5 t = true ↔ t.val % 32 = 31)
/-- Window 6 (result 2 (%4#2)) is written back at the last point only, at any contents of the tables (its index map reads none). -/
theorem flush0_6 (a : (pcfg0 (F := F)).Adm) : ∀ t : Fin (cfg0 a).N, ((cfg0 a).win 6).flush t = true ↔ t.val % 32 = 31 :=
  (fun t => Pipeline.Window.flushOf_const cc0_transform_6 (fun _ _ => rfl) (n := 32) (by decide) rfl t : ∀ t : Fin grid0.N, Pipeline.Window.flushOf grid0 true cc0_transform_6 t = true ↔ t.val % 32 = 31)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6))

end Cert.KernelIdeal.Kit

end
-- ==== Proof.Words.lean ====
/- The words of the kernel's address arithmetic. A write position `w` below 1024 is split into a tile `w / 128` and a lane `w % 128`
   by the signed division chains of the program; the batch is turned by `lane - env` modulo 1024. Each chain is evaluated here once. -/
module

public import Idealize.ShloMosaic.Lib.WordCmp
public import Idealize.ShloMosaic.Lib.Tactic

@[expose] public section

namespace Cert.Enqueue

open Idealize.ShloMosaic

/-- The tile a position lies in: the floor of `w / 128`, by the program's signed chain. -/
abbrev tileOf (w : BitVec 32) : BitVec 32 :=
  Scalar.select
    (Scalar.andi
      (Scalar.cmpi .ne
        (Scalar.subi (Scalar.extui (Scalar.cmpi .sgt w 0#32)) (Scalar.extui (Scalar.cmpi .slt w 0#32)) : BitVec 32)
        (Scalar.subi (Scalar.extui (Scalar.cmpi .sgt 128#32 0#32)) (Scalar.extui (Scalar.cmpi .slt 128#32 0#32))))
      (Scalar.cmpi .ne (Scalar.remsi w 128#32) 0#32))
    (Scalar.subi (Scalar.divsi w 128#32) 1#32)
    (Scalar.divsi w 128#32)

/-- A remainder with the sign of the divisor, by the program's chain; a zero divisor is replaced by one. -/
abbrev modOf (d w : BitVec 32) : BitVec 32 :=
  Scalar.select
    (Scalar.andi
      (Scalar.xori (Scalar.cmpi .slt (Scalar.remsi w (Scalar.select (Scalar.cmpi .eq d 0#32) 1#32 d)) 0#32)
        (Scalar.cmpi .slt (Scalar.select (Scalar.cmpi .eq d 0#32) 1#32 d) 0#32))
      (Scalar.cmpi .ne (Scalar.remsi w (Scalar.select (Scalar.cmpi .eq d 0#32) 1#32 d)) 0#32))
    (Scalar.addi (Scalar.remsi w (Scalar.select (Scalar.cmpi .eq d 0#32) 1#32 d)) (Scalar.select (Scalar.cmpi .eq d 0#32) 1#32 d))
    (Scalar.remsi w (Scalar.select (Scalar.cmpi .eq d 0#32) 1#32 d))

/-- The column the tile of position `w` starts at, `b` being the first column of the environment. -/
abbrev baseOf (b w : BitVec 32) : BitVec 32 := Scalar.addi b (Scalar.muli (tileOf w) 128#32)

/-- The offsets of that tile in the block of columns. -/
abbrev offOf (b w : BitVec 32) : Fin 2 → Nat := ![(0#32 : BitVec 32).toNat, (Scalar.indexCast (baseOf b w)).toNat]

/-- The lane of position `w`. -/
abbrev laneOf (w : BitVec 32) : BitVec 32 := modOf 128#32 w

/-- How far the batch is turned so that environment `e` comes to the lane of position `w`. -/
abbrev shiftOf (e w : BitVec 32) : BitVec 32 := modOf 1024#32 (Scalar.subi (laneOf w) e)

/-- The tile chain at every position below 1024. -/
theorem tileOf_ofNat : ∀ n : Fin 1024, tileOf (BitVec.ofNat 32 n.val) = BitVec.ofNat 32 (n.val / 128) := by
  decide +kernel

/-- The lane chain at every position below 1024. -/
theorem laneOf_ofNat : ∀ n : Fin 1024, laneOf (BitVec.ofNat 32 n.val) = BitVec.ofNat 32 (n.val % 128) := by
  decide +kernel

/-- The remainder chain at every difference of a lane and an environment, the differences counted from -1023. -/
theorem mod1024_ofNat : ∀ n : Fin 1151, modOf 1024#32 (BitVec.ofNat 32 n.val - 1023#32) = BitVec.ofNat 32 ((n.val + 1) % 1024) := by
  decide +kernel

/-- A word is the word of its value. -/
theorem eq_ofNat (w : BitVec 32) : w = BitVec.ofNat 32 w.toNat := by simp

/-- The tile of a position below 1024. -/
theorem toNat_tileOf {w : BitVec 32} (h : w.toNat < 1024) : (tileOf w).toNat = w.toNat / 128 := by
  have := tileOf_ofNat ⟨w.toNat, h⟩
  dsimp only at this
  rw [← eq_ofNat] at this
  rw [this, BitVec.toNat_ofNat]
  omega

/-- The lane of a position below 1024. -/
theorem toNat_laneOf {w : BitVec 32} (h : w.toNat < 1024) : (laneOf w).toNat = w.toNat % 128 := by
  have := laneOf_ofNat ⟨w.toNat, h⟩
  dsimp only at this
  rw [← eq_ofNat] at this
  rw [this, BitVec.toNat_ofNat]
  omega

/-- The turn of the batch for environment `e` and position `w`, both below 1024. -/
theorem toNat_shiftOf {e w : BitVec 32} (he : e.toNat < 1024) (h : w.toNat < 1024) :
    (shiftOf e w).toNat = (w.toNat % 128 + 1024 - e.toNat) % 1024 := by
  have hl := toNat_laneOf h
  have key : Scalar.subi (laneOf w) e = BitVec.ofNat 32 (w.toNat % 128 + 1023 - e.toNat) - 1023#32 := by
    show laneOf w - e = _
    apply BitVec.eq_of_toNat_eq
    simp only [BitVec.toNat_sub, BitVec.toNat_ofNat, hl]
    omega
  have := mod1024_ofNat ⟨w.toNat % 128 + 1023 - e.toNat, by omega⟩
  dsimp only at this
  unfold shiftOf
  rw [key, this, BitVec.toNat_ofNat]
  omega

/-- The first column of the tile of a position below 1024. -/
theorem toNat_baseOf {b w : BitVec 32} (hb : b.toNat ≤ 31744) (h : w.toNat < 1024) :
    (baseOf b w).toNat = b.toNat + w.toNat / 128 * 128 := by
  show (b + tileOf w * 128#32).toNat = _
  simp only [BitVec.toNat_add, BitVec.toNat_mul, toNat_tileOf h, BitVec.toNat_ofNat]
  omega

/-- The offsets of the tile as numbers. -/
theorem offOf_eq {b w : BitVec 32} (hb : b.toNat ≤ 31744) (h : w.toNat < 1024) :
    offOf b w = ![0, b.toNat + w.toNat / 128 * 128] := by
  funext a
  match a with
  | 0 => rfl
  | 1 => exact toNat_baseOf hb h

/-- What the program assumes of a position it reads: the tile starts at a multiple of 128 and lies inside the block. -/
theorem tile_ok {b w : BitVec 32} (hb : b.toNat ≤ 31744) (h128 : 128 ∣ b.toNat) (h : w.toNat < 1024) :
    128 ∣ (baseOf b w).toNat ∧ ∀ a : Fin 2, offOf b w a + (![64, 128] : Fin 2 → Nat) a ≤ (![64, 32768] : Fin 2 → Nat) a := by
  refine ⟨by rw [toNat_baseOf hb h]; omega, ?_⟩
  rw [offOf_eq hb h]
  intro a
  match a with
  | 0 => show 0 + 64 ≤ 64; omega
  | 1 => show b.toNat + w.toNat / 128 * 128 + 128 ≤ 32768; omega

end Cert.Enqueue

end
-- ==== Proof.Step.lean ====
/- One environment's step of the kernel body, as a fact about what the output block reads: the tile written back is the tile read
   with one column replaced by the batch's. -/
module

public import proofs.«01_k».proof.Proof.Kit
public import proofs.«01_k».proof.Proof.Words
public import Idealize.ShloMosaic.Lib.WritesUnit
public import Idealize.ShloMosaic.Lib.VecWindow
public import Idealize.ShloMosaic.Lib.KernelVsHost
public import Idealize.ShloMosaic.Lib.Pipeline.Value

@[expose] public section

set_option maxRecDepth 16384

noncomputable section

namespace Cert.Enqueue

open Cert.KernelIdeal Cert.KernelIdeal.Gen
open Idealize.ShloMosaic
open Idealize.ShloMosaic.ValueIdx (ix1 ix2)

variable {F : FTy → Type} [FloatOps F]

/-- The tile stored for environment word `e` and position `w`: the batch turned so that the environment's column is at the position's
    lane, taken in that lane, and the tile `cur` read before elsewhere. -/
abbrev tileOut (v4 : FVec F S64x1024 .f32) (e w : BitVec 32) (cur : Vec F S64x128 .f32) : FVec F S64x128 .f32 :=
  select (cmpi .eq (iota .tc S64x128 32 [1] iota_S64x128_d1_w32 : IVec S64x128 32) (broadcast S64x128 (laneOf w)))
    (extractStridedSlice S64x128 ![0, 0] (dynamicRotate 1 (shiftOf e w) none v4 rotates_S64x1024_d1) slices_S64x1024_o0_0_S64x128)
    (shapeCast S64x128 cur shapeCasts_S64x128_S64x128)

/-- The stored tile at row `y 0` and lane `y 1`. -/
theorem tileOut_apply (v4 : FVec F S64x1024 .f32) {e w : BitVec 32} (he : e.toNat < 1024) (hw : w.toNat < 1024) (cur : Vec F S64x128 .f32)
    (y : S64x128.Idx) :
    tileOut v4 e w cur y = if (y 1).val = w.toNat % 128 then v4 (ix2 (n0 := 64) (n1 := 1024) (y 0) ⟨e.toNat, he⟩) else cur y := by
  have hy : (y 1).val < 128 := (y 1).isLt
  have hcmp : (cmpi .eq (iota .tc S64x128 32 [1] iota_S64x128_d1_w32 : IVec S64x128 32) (broadcast S64x128 (laneOf w)) : IVec S64x128 1) y
      = if (y 1).val = w.toNat % 128 then 1#1 else 0#1 := by
    show BitVec.ofBool (BitVec.ofNat 32 (0 * 128 + (y 1).val) == laneOf w) = _
    have hiff : (BitVec.ofNat 32 (0 * 128 + (y 1).val) == laneOf w) = decide ((y 1).val = w.toNat % 128) := by
      rw [beq_eq_decide]
      refine decide_eq_decide.mpr ?_
      rw [← BitVec.toNat_inj, toNat_laneOf hw, BitVec.toNat_ofNat]
      omega
    rw [hiff]
    by_cases h : (y 1).val = w.toNat % 128 <;> simp [h]
  show Scalar.select _ _ _ = _
  rw [hcmp, Idealize.ShloMosaic.shapeCast_self]
  by_cases h : (y 1).val = w.toNat % 128
  · rw [if_pos h, if_pos h]
    show extractStridedSlice S64x128 ![0, 0] (dynamicRotate 1 (shiftOf e w) none v4 rotates_S64x1024_d1) slices_S64x1024_o0_0_S64x128 y = _
    rw [extractStridedSlice_apply ![0, 0] _ _ y (ix2 (n0 := 64) (n1 := 1024) (y 0) ⟨(y 1).val, by omega⟩) (by
      intro a
      match a with
      | 0 => show (y 0).val = 0 + (y 0).val; omega
      | 1 => show (y 1).val = 0 + (y 1).val; omega)]
    refine dynamicRotate_apply 1 _ v4 _ _ _ ?_
    intro b
    match b with
    | 0 => rfl
    | 1 =>
      show e.toNat = ((y 1).val + 1024 - (shiftOf e w).toNat % 1024) % 1024
      rw [toNat_shiftOf he hw]
      omega
  · rw [if_neg h, if_neg h]
    rfl

/-- The environment a column of chunk `c` belongs to: 32 environments of 1024 columns each. -/
def envAt (c : Fin 32) (y : S64x32768.Idx) : Fin 1024 :=
  ⟨32 * c.val + (y 1).val / 1024, by have h : (y 1).val < 32768 := (y 1).isLt; omega⟩

/-- The output block of chunk `c` once `k` environments are written: the batch's column at each written environment's position, the
    buffer elsewhere. -/
def blockOut (pos : Fin 1024 → Nat) (x0 : Vec F S64x1024 .f32) (x1 : Vec F S64x32768 .f32) (c : Fin 32) (k : Nat) : Vec F S64x32768 .f32 :=
  fun y => if (y 1).val / 1024 < k ∧ (y 1).val % 1024 = pos (envAt c y) then x0 (ix2 (n0 := 64) (n1 := 1024) (y 0) (envAt c y)) else x1 y

/-- Before any environment is written the block is the buffer's. -/
theorem blockOut_zero (pos : Fin 1024 → Nat) (x0 : Vec F S64x1024 .f32) (x1 : Vec F S64x32768 .f32) (c : Fin 32) :
    blockOut pos x0 x1 c 0 = x1 := by
  funext y
  exact if_neg (by omega)

/-- A step: after the stores `L` the block reads as with `k` environments written; the next store is the tile of environment
    `32 c + k`, read after `L`, with the batch's column put at its position. The block then reads as with `k + 1` written. -/
theorem step_read {v : View sig .tc .vmem S64x32768 .f32} (f : v.ty.Contents (Elt F)) (pos : Fin 1024 → Nat) (hpos : ∀ e, pos e < 1024)
    (x0 : Vec F S64x1024 .f32) (x1 : Vec F S64x32768 .f32) (c : Fin 32) (k : Nat) (hk : k < 32) (L : List (View.Piece (Elt F) S64x32768 .f32))
    (b e w : BitVec 32) (hb : b.toNat = k * 1024) (he : e.toNat = 32 * c.val + k)
    (hw : w.toNat = pos ⟨32 * c.val + k, by omega⟩)
    (inb : ∀ a, offOf b w a + S64x128.size a ≤ S64x32768.size a) (inb' : ∀ a, offOf b w a + S64x128.size a ≤ S64x32768.size a)
    (hL : v.read (Elt F) (v.writes (Elt F) f L) = blockOut pos x0 x1 c k) :
    v.read (Elt F) (v.writes (Elt F) f (⟨Rect.unit (s := S64x32768) (offOf b w) S64x128.size inb,
      tileOut x0 e w (v.readAt (Elt F) (Rect.unit (s := S64x32768) (offOf b w) S64x128.size inb').toLoadRect (v.writes (Elt F) f L))⟩ :: L))
      = blockOut pos x0 x1 c (k + 1) := by
  have hp := hpos ⟨32 * c.val + k, by omega⟩
  have hw' : w.toNat < 1024 := by omega
  have he' : e.toNat < 1024 := by omega
  have hoff := offOf_eq (b := b) (w := w) (by omega) hw'
  funext y
  have hy : (y 1).val < 32768 := (y 1).isLt
  have hy0 : (y 0).val < 64 := (y 0).isLt
  by_cases hin : b.toNat + w.toNat / 128 * 128 ≤ (y 1).val ∧ (y 1).val < b.toNat + w.toNat / 128 * 128 + 128
  · let x : S64x128.Idx := ix2 (n0 := 64) (n1 := 128) ⟨(y 0).val, hy0⟩ ⟨(y 1).val - (b.toNat + w.toNat / 128 * 128), by omega⟩
    have hx : ∀ a : Fin 2, (y a).val = (![0, b.toNat + w.toNat / 128 * 128] : Fin 2 → Nat) a + (x a).val := by
      intro a
      match a with
      | 0 => show (y 0).val = 0 + (y 0).val; omega
      | 1 => show (y 1).val = b.toNat + w.toNat / 128 * 128 + ((y 1).val - (b.toNat + w.toNat / 128 * 128)); omega
    rw [View.read_writes_cons_unit_of_mem v f inb _ L y x hoff hx]
    refine (tileOut_apply x0 he' hw' _ x).trans ?_
    have hcur : v.readAt (Elt F) (Rect.unit (s := S64x32768) (offOf b w) S64x128.size inb').toLoadRect (v.writes (Elt F) f L) x
        = blockOut pos x0 x1 c k y := by
      rw [← hL]
      refine congrArg (v.read (Elt F) (v.writes (Elt F) f L)) (funext fun a => Fin.ext ?_)
      show offOf b w a + 1 * (x a).val = (y a).val
      rw [hoff, hx a]
      omega
    have hq : (y 1).val / 1024 = k := by omega
    have henv : envAt c y = ⟨32 * c.val + k, by omega⟩ := Fin.ext (by show 32 * c.val + (y 1).val / 1024 = 32 * c.val + k; omega)
    have hx1 : (x 1).val = (y 1).val - (b.toNat + w.toNat / 128 * 128) := rfl
    by_cases hlane : (x 1).val = w.toNat % 128
    · rw [if_pos hlane]
      unfold blockOut
      rw [if_pos ⟨by omega, by rw [henv, ← hw]; omega⟩, henv]
      exact congrArg x0 (congrArg₂ (ix2 (n0 := 64) (n1 := 1024)) rfl (Fin.ext he))
    · rw [if_neg hlane, hcur]
      unfold blockOut
      rw [if_neg (by omega), if_neg (by rw [henv, ← hw]; rintro ⟨-, h2⟩; rw [hx1] at hlane; omega)]
  · rw [View.read_writes_cons_unit_of_not_mem v f inb _ L y hoff 1 (by
      show (y 1).val < b.toNat + w.toNat / 128 * 128 ∨ b.toNat + w.toNat / 128 * 128 + 128 ≤ (y 1).val
      omega), hL]
    unfold blockOut
    by_cases hq : (y 1).val / 1024 = k
    · have henv : envAt c y = ⟨32 * c.val + k, by omega⟩ := Fin.ext (by show 32 * c.val + (y 1).val / 1024 = 32 * c.val + k; omega)
      rw [if_neg (by omega), if_neg (by rw [henv, ← hw]; rintro ⟨-, h2⟩; omega)]
    · refine if_congr ?_ rfl rfl
      omega

end Cert.Enqueue

end
-- ==== Proof.Run.lean ====
/- The kernel body run once: what its three output blocks hold, given the input blocks and the position table. -/
module

public import proofs.«01_k».proof.Proof.Step

@[expose] public section

set_option maxRecDepth 16384

noncomputable section

namespace Cert.Enqueue

open Cert.KernelIdeal Cert.KernelIdeal.Gen Cert.KernelIdeal.Kit
open Idealize.ShloMosaic Idealize.ShloMosaic.TcCoe Idealize.ShloMosaic.Tactic
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The position table as a function of the environment. -/
def posOf (T : Vec F S1024 .i32) (e : Fin 1024) : Nat := (T (ix1 (n := 1024) e) : BitVec 32).toNat

/-- A word read from a table whose entries are below 1024 is below 1024. -/
theorem word_lt {xt : Vec F S1024 .i32} (hx : ∀ j, (xt j : BitVec 32).toNat < 1024) (r : LoadRect S1024) (x : r.shape.Idx) :
    (tbM0_0.view.readAt (Elt F) r xt x : BitVec 32).toNat < 1024 := hx _

/-- The offset in the table of environment `32 c + k`, as the program computes it. -/
abbrev tabOff (i : grid0.Coords) (kw : BitVec 32) : Fin 1 → Nat :=
  ![(Scalar.indexCast (Scalar.addi (Scalar.muli (BitVec.ofNat 32 (i 0).val) 32#32) kw)).toNat]

/-- The environment word of step `k` of chunk `c` is `32 c + k`. -/
theorem envWord (i : grid0.Coords) {kw : BitVec 32} {k : Nat} (hk : k < 32) (hkw : kw.toNat = k) :
    (Scalar.addi (Scalar.muli (BitVec.ofNat 32 (i 0).val) 32#32) kw).toNat = 32 * (i 0).val + k := by
  have hi : (i 0).val < 32 := (i 0).isLt
  show (BitVec.ofNat 32 (i 0).val * 32#32 + kw).toNat = _
  simp only [BitVec.toNat_add, BitVec.toNat_mul, BitVec.toNat_ofNat, hkw]
  omega

/-- The word read at that offset is the environment's position. -/
theorem posWord (xt : Vec F S1024 .i32) (i : grid0.Coords) {kw : BitVec 32} {k : Nat} (hk : k < 32) (hkw : kw.toNat = k)
    (inb : ∀ a, tabOff i kw a + S1.size a ≤ S1024.size a) (x : S1.Idx) (hlt : 32 * (i 0).val + k < 1024) :
    (tbM0_0.view.readAt (Elt F) (Rect.unit (s := S1024) (tabOff i kw) S1.size inb).toLoadRect xt x : BitVec 32).toNat
      = posOf xt ⟨32 * (i 0).val + k, hlt⟩ := by
  unfold posOf
  refine congrArg BitVec.toNat (congrArg xt (funext fun a => Fin.ext ?_))
  match a with
  | 0 =>
    have hx : (x 0).val < 1 := (x 0).isLt
    show (Scalar.addi (Scalar.muli (BitVec.ofNat 32 (i 0).val) 32#32) kw).toNat + 1 * (x 0).val = 32 * (i 0).val + k
    rw [envWord i hk hkw]
    omega

-- (the run's proof term is large: checking it walks past the default budget)
set_option pp.deepTerms false in
set_option maxHeartbeats 5044000 in
/-- The body at chunk `i`, on whole staging memrefs, with the position table's entries below 1024: the input blocks are as they were, the
    first output block is the buffer's with the chunk's 32 columns written, the other two are the next positions and sizes. -/
theorem body_run (c : Dev nD) (i : grid0.Coords) (arg2 : Memref sig .tc .vmem S64x1024 .f32) (harg2 : arg2.IsWhole)
    (arg3 : Memref sig .tc .vmem S64x32768 .f32) (harg3 : arg3.IsWhole) (arg4 : Memref sig .tc .vmem S8x128 .i32) (harg4 : arg4.IsWhole)
    (arg5 : Memref sig .tc .vmem S8x128 .i32) (harg5 : arg5.IsWhole) (arg6 : Memref sig .tc .vmem S64x32768 .f32) (harg6 : arg6.IsWhole)
    (arg7 : Memref sig .tc .vmem S8x128 .i32) (harg7 : arg7.IsWhole) (arg8 : Memref sig .tc .vmem S8x128 .i32) (harg8 : arg8.IsWhole)
    (x0 : Vec F S64x1024 .f32) (x1 : Vec F S64x32768 .f32) (x2 : Vec F S8x128 .i32) (x3 : Vec F S8x128 .i32)
    (xt0 : Vec F S1024 .i32) (hx : ∀ j, (xt0 j : BitVec 32).toNat < 1024) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (∃ d, owns (c : Thread nD τ) arg7 fullShare d) ∗ (∃ d, owns (c : Thread nD τ) arg8 fullShare d) ∗ tbPt0 c tbM0_0 xt0
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (blockOut (posOf xt0) x0 x1 (i 0) 32)
            ∗ owns (c : Thread nD τ) arg7 fullShare (k0_pay45 x2) ∗ owns (c : Thread nD τ) arg8 fullShare (k0_pay46 x3)
            ∗ tbPt0 c tbM0_0 xt0) -∗ K ⟨⟩))
      ⊢ wp frame (wpE (defs₀ (F := F)) Variants.none c none) E
          (cc0__body i tbM0_0 htbM0_0 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, HT0, Hk⟩
  obtain rfl := harg2.eq_unread hf0; obtain rfl := harg3.eq_unread hf1; obtain rfl := harg4.eq_unread hf2; obtain rfl := harg5.eq_unread hf3
  sl_exec (disch := exact tile_ok (by decide) (by decide) (word_lt hx _ _))
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    have h0 : k0_pay2 (arg2.view.readAt (Elt F) (Rect.unit (s := S64x1024) ![0, 0] S64x1024.size inb_S64x1024_S64x1024_0_0).toLoadRect (harg2.unread x0)) = x0 := by
      rw [View.readAt_full, harg2.read_unread]; exact Idealize.ShloMosaic.shapeCast_self _ _
    have h1 : k0_pay1 (arg3.view.readAt (Elt F) (Rect.unit (s := S64x32768) ![0, 0] S64x32768.size inb_S64x32768_S64x32768_0_0).toLoadRect (harg3.unread x1)) = x1 := by
      rw [View.readAt_full, harg3.read_unread]; exact Idealize.ShloMosaic.shapeCast_self _ _
    have hA : ∀ A, A = x0 → blockOut (posOf xt0) A x1 (i 0) 32 = blockOut (posOf xt0) x0 x1 (i 0) 32 := by rintro _ rfl; rfl
    refine Eq.trans ?_ (hA _ h0)
    have st := step_read arg6.view.junk (posOf xt0) (fun e => hx _) (k0_pay2 (arg2.view.readAt (Elt F) (Rect.unit (s := S64x1024) ![0, 0] S64x1024.size inb_S64x1024_S64x1024_0_0).toLoadRect (harg2.unread x0))) x1 (i 0)
    iterate 32
      refine st _ (by decide) _ _ _ _ (by decide) (envWord i (by decide) (by decide))
        (posWord xt0 i (by decide) (by decide) _ _ _) _ _ ?_
    refine Eq.trans ?_ (blockOut_zero _ _ x1 (i 0)).symm
    exact (View.read_writes_full arg6.view arg6.view.junk inb_S64x32768_S64x32768_0_0 _ []).trans h1
  isplitl [H5]
  · iexists _; isplitr; swap; · iexact H5
    ipureintro
    rw [View.readAt_full, harg4.read_unread]
    exact View.read_writes_full _ _ _ _ _
  isplitl [H6]
  · iexists _; isplitr; swap; · iexact H6
    ipureintro
    rw [View.readAt_full, harg5.read_unread]
    exact View.read_writes_full _ _ _ _ _
  iexact HT0

end Cert.Enqueue

end
-- ==== Proof.Launch.lean ====
/- The launch of the idealized kernel with its outputs named: the proof data, the body obligation at every grid point, and the run,
   whose final memory is the arrays after every write-back followed by the host lines after the region. -/
module

public import proofs.«01_k».proof.Proof.Run
public import Idealize.ShloMosaic.Lib.Claim

@[expose] public section

set_option maxRecDepth 16384

noncomputable section

namespace Cert.Enqueue

open Cert.KernelIdeal Cert.KernelIdeal.Gen Cert.KernelIdeal.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The position table of the launch: the prefetched words. -/
abbrev posTbl : Vec F S1024 .i32 := tbl m 0

/-- Every entry of the position table is a position inside a row. -/
def PosOk : Prop := ∀ j, (posTbl m j : BitVec 32).toNat < 1024

/-- The proof data of the pipeline on core `c`: the inputs' buffers keep their blocks; after the body at point `t` the first output's buffer
    holds the buffer's block with the chunk's columns written, the other two the next positions and the next sizes. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => blockOut (posOf (posTbl m)) (iblk m hO c 0 t) (iblk m hO c 1 t) (grid0.coords t 0) 32
    | ⟨5, _⟩ => k0_pay45 (F := F) (iblk m hO c 2 t)
    | ⟨6, _⟩ => k0_pay46 (F := F) (iblk m hO c 3 t)
  Φ _ := iprop(Pipeline.ΦA spec0 c ∗ Pipeline.ΦT pre0 (tbl m) c)
  q _ := fullShare
  owed _ := 0

/-- The proof data's arrays are the contents at the region's entry. -/
theorem A_eq (hO : Ok m) (c : Dev nD) (w : Fin (cfgM m hO).W) : (dats m hO 0 c).A w = V m c (Pipeline.arrRef spec0 w) := by
  dsimp only [dats]

/-- What the body leaves in each window's buffer. -/
theorem after0_0 (hO : Ok m) (c : Dev nD) (t : Fin (cfgM m hO).N) : (dats m hO 0 c).after 0 t = iblk m hO c 0 t := by dsimp only [dats]; try rfl
/-- Input window 1 is left as fetched. -/
theorem after0_1 (hO : Ok m) (c : Dev nD) (t : Fin (cfgM m hO).N) : (dats m hO 0 c).after 1 t = iblk m hO c 1 t := by dsimp only [dats]; try rfl
/-- Input window 2 is left as fetched. -/
theorem after0_2 (hO : Ok m) (c : Dev nD) (t : Fin (cfgM m hO).N) : (dats m hO 0 c).after 2 t = iblk m hO c 2 t := by dsimp only [dats]; try rfl
/-- Input window 3 is left as fetched. -/
theorem after0_3 (hO : Ok m) (c : Dev nD) (t : Fin (cfgM m hO).N) : (dats m hO 0 c).after 3 t = iblk m hO c 3 t := by dsimp only [dats]; try rfl
/-- The buffer block holds the fetched block with its environments' rows written. -/
theorem after0_4 (hO : Ok m) (c : Dev nD) (t : Fin (cfgM m hO).N) :
    (dats m hO 0 c).after 4 t = blockOut (posOf (posTbl m)) (iblk m hO c 0 t) (iblk m hO c 1 t) (grid0.coords t 0) 32 := by dsimp only [dats]; try rfl
/-- The position block holds the advanced positions. -/
theorem after0_5 (hO : Ok m) (c : Dev nD) (t : Fin (cfgM m hO).N) : (dats m hO 0 c).after 5 t = k0_pay45 (F := F) (iblk m hO c 2 t) := by dsimp only [dats]; try rfl
/-- The size block holds the advanced sizes. -/
theorem after0_6 (hO : Ok m) (c : Dev nD) (t : Fin (cfgM m hO).N) : (dats m hO 0 c).after 6 t = k0_pay46 (F := F) (iblk m hO c 3 t) := by dsimp only [dats]; try rfl

/-- Each input's staging buffer holds its block when the body starts. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- The body finds input window 1 as fetched. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- The body finds input window 2 as fetched. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- The body finds input window 3 as fetched. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t))

set_option maxHeartbeats 1600000 in
set_option maxRecDepth 131072 in
/-- The body at any point: the inputs' buffers hold their blocks, so the run applies and leaves the named outputs. -/
theorem sound_body (hO : Ok m) (hT : PosOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ (iblk m hO c 0 t) (iblk m hO c 1 t) (iblk m hO c 2 t) (iblk m hO c 3 t) (posTbl m) hT Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HT0]; · iexact HT0
  iintro ⟨H0, H1, H2, H3, H4, H5, H6, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body at that point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation at every point. -/
theorem body_obligation (hO : Ok m) (hT : PosOk m) (c : Dev nD) :
    BodyObligation (dats (F := F) m hO 0 c) (defs₀ (F := F)) Variants.none () Set.univ := fun t => by
  rw [bigSep_W0, bigSep_W0, defs₀_row m hO]
  exact triple_restated (sound_body m hO hT c t) rfl .rfl fun _ => .rfl

set_option backward.isDefEq.respectTransparency.types false in
set_option maxHeartbeats 800000 in
/-- The launch: from any memory with zero counters whose position table is in range, every run of the program ends with the arrays after
    every write-back, the buffers of the host lines after the region at those lines' values, and every counter at zero. -/
theorem run_main (hO : Ok m) (hT : PosOk m) :
    θ_run defs (onTc (τ := τ) (main (F := F))) (s₀ m ρ) (fun r =>
      Pipeline.FramePost (Pipeline.pin pcfgs fun _ => adm m hO) (dats m hO) (0 : Fin 1)
        (Pipeline.afterTail pcfgs (fun _ => adm m hO) (dats m hO) 0 (V0 m) [hostOps1]) r ∧ r.2.sem = fun _ => 0) :=
  Pipeline.θ_run_frameP_around (Q' := _) pcfgs (fun _ => adm m hO) (dats m hO) (0 : Fin 1) launch0 defs₀ Variants.none m ρ main
    (hbody := fun c => (body_obligation m hO hT c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

end Cert.Enqueue

end
-- ==== Proof.Pre.lean ====
/- What the precondition says of the argument arrays: the environment words count 0, 1, 2, … and every position is inside a row. -/
module

public import proofs.«01_k».proof.Proof.Gen.Pre_in_range
public import Idealize.ShloMosaic.Lib.ReduceAll
public import Idealize.ShloMosaic.Lib.WordCmp
public import Idealize.ShloMosaic.Lib.ValueIdxCore

@[expose] public section

namespace Cert.Enqueue

open Idealize.ShloMosaic Idealize.ShloMosaic.ValueIdx Cert.Pre_in_range Cert.Pre_in_range.Gen

/-- A bitwise and of two one-bit words is one exactly when both are. -/
theorem bit_and_one {a b : BitVec 1} (h : a &&& b = 1#1) : a = 1#1 ∧ b = 1#1 := by
  revert a b; decide

/-- A truth value as a one-bit word is one exactly when it is true. -/
theorem bit_of_true {b : Bool} (h : BitVec.ofBool b = 1#1) : b = true := by
  revert b; decide

/-- A word between zero and 1024 in the signed order is below 1024 as a natural number. -/
theorem word_small {w : BitVec 32} (h0 : (0#32).sle w = true) (h1 : w.slt 1024#32 = true) : w.toNat < 1024 := by
  have h0' : (0 : Int) ≤ w.toInt := by simpa [BitVec.sle] using h0
  have h1' : w.toInt < (1024 : Int) := by simpa [BitVec.slt] using h1
  rw [BitVec.toInt_eq_toNat_cond] at h0' h1'
  have := w.isLt
  split at h0' <;> omega

variable {F : FTy → Type} [FloatOps F]

/-- Under the precondition, entry `e` of the environment array is the word `e`, and every position is below 1024. -/
theorem of_in_range {a0 : FVec F S1024x64 .f32} {a1 : IVec S1024 32} {a2 : FVec F S1048576x64 .f32} {a3 a4 : IVec S1024 32}
    (h : Cert.Pre_in_range.fn (F := F) a0 a1 a2 a3 a4 = fun _ => 1#1) :
    (∀ e : Fin 1024, a1 (ix1 e) = BitVec.ofNat 32 e.val) ∧ ∀ j, (a3 j).toNat < 1024 := by
  haveI : Subsingleton S_.Idx := ⟨fun a b => funext fun k => k.elim0⟩
  have hj := congrFun h (Shape.Idx.first (s := S_) h_S_)
  obtain ⟨h12, h3⟩ := bit_and_one hj
  obtain ⟨h1, h2⟩ := bit_and_one h12
  refine ⟨fun e => ?_, fun j => ?_⟩
  · have q := bit_of_true (Host.reduce_andi_all _ _ _ _ _ h1 (ix1 e))
    exact eq_of_beq q
  · exact word_small (bit_of_true (Host.reduce_andi_all _ _ _ _ _ h2 j)) (bit_of_true (Host.reduce_andi_all _ _ _ _ _ h3 j))

end Cert.Enqueue
-- ==== Proof.Frames.lean ====
/- The frames: both programs run to the end, leave their argument arrays as they were and every counter at zero. -/
module

public import proofs.«01_k».proof.Proof.Same
public import proofs.«01_k».proof.Proof.Launch
public import proofs.«01_k».proof.Proof.Pre
public import proofs.«01_k».proof.Defs

@[expose] public section

set_option maxRecDepth 16384

noncomputable section

namespace Cert.Enqueue

open Idealize.ShloMosaic Idealize.ShloMosaic.TcCoe Idealize.SL.Sem

variable {F : FTy → Type} [FloatOps F]

/-! ## The idealized program -/

section idealized

open Cert.KernelIdeal Cert.KernelIdeal.Gen Cert.KernelIdeal.Kit

/-- The argument arrays at the end of the run: as launched. -/
theorem args_kept (m : (ℓ : Loc nD τ sig) → Buf (Elt F) ℓ) (hO : Ok m) {r : PUnit × MemSt nD τ sig (Elt F)}
    (h : Pipeline.FramePost (Pipeline.pin pcfgs fun _ => adm m hO) (dats m hO) (0 : Fin 1)
        (Pipeline.afterTail pcfgs (fun _ => adm m hO) (dats m hO) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (by decide : main_arg0 ∈ Pipeline.restRefs sig spec0)).trans (W_of_arg m hO _ c _ (by decide) (by decide) (by decide)),
    ((h c).2 main_arg1 (by decide : main_arg1 ∈ Pipeline.restRefs sig spec0)).trans (W_of_arg m hO _ c _ (by decide) (by decide) (by decide)),
    ((h c).2 main_arg2 (by decide : main_arg2 ∈ Pipeline.restRefs sig spec0)).trans (W_of_arg m hO _ c _ (by decide) (by decide) (by decide)),
    ((h c).2 main_arg3 (by decide : main_arg3 ∈ Pipeline.restRefs sig spec0)).trans (W_of_arg m hO _ c _ (by decide) (by decide) (by decide)),
    ((h c).2 main_arg4 (by decide : main_arg4 ∈ Pipeline.restRefs sig spec0)).trans (W_of_arg m hO _ c _ (by decide) (by decide) (by decide))⟩

/-- The prefetched table is the position array as launched. -/
theorem posTbl_eq (m : (ℓ : Loc nD τ sig) → Buf (Elt F) ℓ) : posTbl m = m (((0 : Dev nD) : Thread nD τ).loc main_arg3) :=
  V_of_arg m 0 main_arg3 (by decide)

/-- A memory whose positions are below 1024 has its prefetched table in range. -/
theorem posOk_of (m : (ℓ : Loc nD τ sig) → Buf (Elt F) ℓ) (h : ∀ j, (m (((0 : Dev nD) : Thread nD τ).loc main_arg3) j : BitVec 32).toNat < 1024) :
    PosOk m := fun j => by
  rw [posTbl_eq m]
  exact h j

/-- The precondition bounds the prefetched table. -/
theorem posOk_of_pre (m : (ℓ : Loc nD τ sig) → Buf (Elt Ideal) ℓ) (h : Pre_KernelIdeal m) : PosOk m :=
  posOk_of m (of_in_range (h 0)).2

/-- The frame over any floats, from a prefetched table in range. -/
theorem frame_any (m : (ℓ : Loc nD τ sig) → Buf (Elt F) ℓ) (ρ : Dev nD → PrngReg) (h : PosOk m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ q => ⟨args_kept m trivial q.1, q.2⟩) (run_main m ρ trivial h)

/-- The frame of the idealized program. -/
theorem frame_idealized : quiescent_KernelIdeal := fun m ρ h => frame_any m ρ (posOk_of_pre m h)

end idealized

/-! ## The compiled program -/

/-- The frame of the compiled program: it is the idealization's text, over the machine's floats. -/
theorem frame_compiled : quiescent_Kernel := fun m ρ h =>
  run_same ⟨m, fun _ => 0, ρ⟩ _ (frame_any (F := Bits) m ρ (posOk_of m (of_in_range (F := Bits) (h 0)).2))

end Cert.Enqueue

end
-- ==== Proof.Spec.lean ====
/- The enqueue as plain functions of the argument arrays: the buffer with one row written per environment, the advanced positions, the
   advanced sizes. Both programs are proved equal to these. -/
module

public import Idealize.ShloMosaic.PureOps
public import Idealize.ShloMosaic.Lib.ValueIdxCore

@[expose] public section

namespace Cert.Enqueue

open Idealize.ShloMosaic Idealize.ShloMosaic.ValueIdx

/-- One word per environment. -/
abbrev SEnv : Shape := ⟨1, ![1024]⟩
/-- One row of 64 numbers per environment. -/
abbrev SBatch : Shape := ⟨2, ![1024, 64]⟩
/-- 1024 rows of 64 numbers per environment, the environments one after the other. -/
abbrev SRing : Shape := ⟨2, ![1048576, 64]⟩

/-- The environment a buffer row belongs to. -/
def rowEnv (j : SRing.Idx) : Fin 1024 := ⟨(j 0).val / 1024, by have h : (j 0).val < 1048576 := (j 0).isLt; omega⟩

/-- The buffer with, for every environment, its row at the environment's position replaced by the environment's new row. -/
def enqueued {α : Type} (batch : SBatch.Idx → α) (buffer : SRing.Idx → α) (pos : SEnv.Idx → BitVec 32) : SRing.Idx → α := fun j =>
  if (j 0).val % 1024 = (pos (ix1 (rowEnv j))).toNat then batch (ix2 (n0 := 1024) (n1 := 64) (rowEnv j) (j 1)) else buffer j

/-- The next position: one further, from the last slot back to the first. -/
def nextPos (w : BitVec 32) : BitVec 32 := if w + 1#32 = 1024#32 then 0#32 else w + 1#32

/-- The next size: one more, held at 1024. -/
def nextSize (w : BitVec 32) : BitVec 32 := IntOp.minsi (w + 1#32) 1024#32

end Cert.Enqueue
-- ==== Proof.Reference.lean ====
/- The reference's three results, as its run states them, are the enqueue: its index words are in range, so no word wraps, no row is
   dropped, and no two rows land on the same place. -/
module

public import proofs.«01_k».proof.Proof.Gen.ReferenceIdeal.Run
public import proofs.«01_k».proof.Proof.Spec
public import Idealize.ShloMosaic.Lib.Routing.OpsSet
public import Idealize.ShloMosaic.Lib.Routing.OpsPair
public import Idealize.ShloMosaic.Lib.Affine
public import Idealize.ShloMosaic.Lib.Pipeline.Value

@[expose] public section

noncomputable section

namespace Cert.Enqueue

open Idealize.ShloMosaic Idealize.ShloMosaic.ValueIdx Cert.ReferenceIdeal Cert.ReferenceIdeal.Gen

/-! ## One word -/

/-- The remainder by 1024 as the reference takes it: the divisor guarded against zero, the truncated remainder moved up by the divisor
    where the signs differ. -/
def floorRem (x : BitVec 32) : BitVec 32 :=
  let d : BitVec 32 := Scalar.select (IntOp.cmpi .eq 1024#32 0#32) 1#32 1024#32
  let q : BitVec 32 := IntOp.remsi .host x d
  Scalar.select (IntOp.andi (IntOp.cmpi .ne (IntOp.cmpi .slt q 0#32) (IntOp.cmpi .slt d 0#32)) (IntOp.cmpi .ne q 0#32)) (IntOp.addi q d) q

/-- Of a small nonnegative word it is the plain remainder. -/
theorem floorRem_toNat {x : BitVec 32} (hx : 2 * x.toNat < 2 ^ 32) : (floorRem x).toNat = x.toNat % 1024 := by
  have hd : Scalar.select (IntOp.cmpi .eq 1024#32 0#32) 1#32 1024#32 = 1024#32 := by decide
  have hq : (IntOp.remsi .host x 1024#32).toNat = x.toNat % 1024 := IntOp.toNat_remsi .host hx 1024 (by decide) (by decide)
  have h0 : IntOp.cmpi .slt (IntOp.remsi .host x 1024#32) 0#32 = 0#1 := by
    rw [WordCmp.cmpi_slt_zero, decide_eq_false (by rw [hq]; have := Nat.mod_lt x.toNat (show 0 < 1024 by decide); omega)]; rfl
  have h1 : IntOp.cmpi .slt 1024#32 0#32 = 0#1 := by decide
  have h2 : ∀ b : BitVec 1, IntOp.andi (IntOp.cmpi .ne 0#1 0#1) b = 0#1 := by decide
  unfold floorRem
  simp only [hd, h0, h1, h2]
  exact hq

/-- One more, by the remainder, is the next position. -/
theorem floorRem_next {w : BitVec 32} (hw : w.toNat < 1024) : floorRem (w + 1#32) = nextPos w := by
  have h1 : (w + 1#32).toNat = w.toNat + 1 := by rw [BitVec.toNat_add]; show (w.toNat + 1) % 2 ^ 32 = _; omega
  refine BitVec.eq_of_toNat_eq ((floorRem_toNat (by omega)).trans ?_)
  unfold nextPos
  by_cases h : w + 1#32 = 1024#32
  · rw [if_pos h, h]; rfl
  · rw [if_neg h]
    have : (w + 1#32).toNat ≠ 1024 := fun e => h (BitVec.eq_of_toNat_eq e)
    omega

/-- The word of row `p` of environment `e` in the flat buffer. -/
theorem flat_word {e : Nat} (he : e < 1024) {p : BitVec 32} (hp : p.toNat < 1024) :
    (BitVec.ofNat 32 e * 1024#32 + p).toNat = 1024 * e + p.toNat := by
  rw [BitVec.toNat_add, BitVec.toNat_mul, BitVec.toNat_ofNat]
  show (e % 2 ^ 32 * 1024 % 2 ^ 32 + p.toNat) % 2 ^ 32 = _
  rw [Nat.mod_eq_of_lt (show e < 2 ^ 32 by omega), Nat.mod_eq_of_lt (show e * 1024 < 2 ^ 32 by omega)]
  omega

/-! ## Columns of index words -/

/-- The array of index words the reference hands on, each negative word moved up by the extent `n`, as one column. -/
abbrev column (n : BitVec 32) (x : IVec S1024 32) : IVec S1024x1 32 :=
  broadcastInDim S1024x1 ![0] bcast_S1024_S1024x1_0 (select (cmpi .slt x (broadcastInDim S1024 ![] bcast_S_S1024 (constantI S_ 32 0#32)))
    (addi x (broadcastInDim S1024 ![] bcast_S_S1024 (constantI S_ 32 n))) x)

/-- A small nonnegative word stands in the column as it is. -/
theorem column_at (n : BitVec 32) (x : IVec S1024 32) (e : Fin 1024) (h : (x (ix1 e)).toNat < 2 ^ 31) :
    column n x (ix2 (n0 := 1024) (n1 := 1) e 0) = x (ix1 e) :=
  (broadcastInDim_apply ![0] bcast_S1024_S1024x1_0 _ (ix2 (n0 := 1024) (n1 := 1) e 0) (ix1 e)
    (fun a => by obtain rfl : a = 0 := Subsingleton.elim _ _; rfl)).trans (Routing.wrap_of_lt _ _ h)

section Envs

variable {ids : IVec S1024 32} (hids : ∀ e : Fin 1024, ids (ix1 e) = BitVec.ofNat 32 e.val)
include hids

/-- The column of the environment words. -/
theorem column_ids (n : BitVec 32) (e : Fin 1024) : column n ids (ix2 (n0 := 1024) (n1 := 1) e 0) = BitVec.ofNat 32 e.val :=
  (column_at n ids e (by rw [hids]; show e.val % 2 ^ 32 < 2 ^ 31; have := e.isLt; omega)).trans (hids e)

/-- Taking an array's entries at the environment words is the array. -/
theorem take_ids (x : IVec S1024 32) : Host.gather gather_S1024_S1024x1_S1024_n_0_n_n_0_1_1 x (column 1024#32 ids) = x := by
  funext j
  rw [eq_ix1 j]
  exact Routing.gather_take1 _ rfl rfl rfl rfl x _ (j 0) (j 0) (column_ids hids _ _) (by decide)

/-- Putting updates at the environment words is the updates. -/
theorem put_ids (x u : IVec S1024 32) :
    Host.scatter scatter_S1024_S1024x1_S1024_n_0_0_1 (fun _ b => b) x (column 1024#32 ids) u = u := by
  funext j
  rw [eq_ix1 j]
  refine (Routing.scatter_set scatter_S1024_S1024x1_S1024_n_0_0_1 rfl rfl rfl x (column 1024#32 ids) u (fun n => n)
    (fun i => column_ids hids _ i) (fun i => by have := i.isLt; omega) (j 0) (u (ix1 (j 0))) (fun i hi => ?_)).1 ⟨j 0, rfl⟩
  exact congrArg (fun t => u (ix1 t)) (Fin.ext hi)

end Envs

/-! ## The rows -/

/-- Row `e` of the updates goes to the row its index word names, each number to its own column. -/
theorem row_lands (idx : IVec S1024x1 32) (e : Fin 1024) (y : Fin 64) (r : Fin 1048576) (c : Fin 64) :
    scatter_S1048576x64_S1024x1_S1024x64_1_0_0_1.resultIdx? (ix2 (n0 := 1024) (n1 := 64) e y) idx = some (ix2 (n0 := 1048576) (n1 := 64) r c)
      ↔ (idx (ix2 (n0 := 1024) (n1 := 1) e 0)).toInt = (r.val : Int) ∧ y = c := by
  have hs0 : scatter_S1048576x64_S1024x1_S1024x64_1_0_0_1.start (ix2 (n0 := 1024) (n1 := 64) e y) idx 0
      = (idx (ix2 (n0 := 1024) (n1 := 1) e 0)).toInt := by
    refine congrArg (fun t => (idx t).toInt) ?_
    funext a
    revert a
    exact Fin.forall_fin_two.2 ⟨rfl, rfl⟩
  have hs1 : scatter_S1048576x64_S1024x1_S1024x64_1_0_0_1.start (ix2 (n0 := 1024) (n1 := 64) e y) idx 1 = 0 := rfl
  have hw0 : scatter_S1048576x64_S1024x1_S1024x64_1_0_0_1.window (ix2 (n0 := 1024) (n1 := 64) e y) 0 = 0 := rfl
  have hw1 : scatter_S1048576x64_S1024x1_S1024x64_1_0_0_1.window (ix2 (n0 := 1024) (n1 := 64) e y) 1 = y.val := rfl
  refine (Routing.resultIdx?_ix2 _ _ _ _ _).trans ?_
  rw [hs0, hs1, hw0, hw1]
  constructor
  · rintro ⟨h0, h1⟩; exact ⟨by omega, Fin.ext (by omega)⟩
  · rintro ⟨h0, rfl⟩; exact ⟨by omega, by omega⟩

/-- Setting, for every environment, the row at its position inside its ring is the enqueued buffer. -/
theorem put_rows {α : Type} (batch : SBatch.Idx → α) (buffer : SRing.Idx → α) (pos : IVec S1024 32) (hpos : ∀ j, (pos j).toNat < 1024)
    (idx : IVec S1024x1 32)
    (hidx : ∀ e : Fin 1024, (idx (ix2 (n0 := 1024) (n1 := 1) e 0)).toInt = ((1024 * e.val + (pos (ix1 e)).toNat : Nat) : Int)) :
    Host.scatter scatter_S1048576x64_S1024x1_S1024x64_1_0_0_1 (fun _ b => b) buffer idx batch = enqueued batch buffer pos := by
  funext j
  have hlands : ∀ k : SBatch.Idx, scatter_S1048576x64_S1024x1_S1024x64_1_0_0_1.resultIdx? k idx = some j
      ↔ 1024 * (k 0).val + (pos (ix1 (k 0))).toNat = (j 0).val ∧ k 1 = j 1 := fun k => by
    have h := row_lands idx (k 0) (k 1) (j 0) (j 1)
    rw [hidx (k 0), Int.ofNat_inj] at h
    have ek : ix2 (n0 := 1024) (n1 := 64) (k 0) (k 1) = k := (eq_ix2 k).symm
    have ej : ix2 (n0 := 1048576) (n1 := 64) (j 0) (j 1) = j := (eq_ix2 j).symm
    exact (iff_of_eq (by rw [ek, ej])).trans h
  unfold enqueued
  by_cases h : (j 0).val % 1024 = (pos (ix1 (rowEnv j))).toNat
  · rw [if_pos h]
    refine Routing.scatter_set_hit _ buffer idx batch j _ (fun k hk => ?_) (ix2 (n0 := 1024) (n1 := 64) (rowEnv j) (j 1))
      ((hlands _).2 ⟨?_, rfl⟩)
    · obtain ⟨h0, h1⟩ := (hlands k).1 hk
      have hp := hpos (ix1 (k 0))
      have e0 : k 0 = rowEnv j := Fin.ext (by show (k 0).val = (j 0).val / 1024; omega)
      exact congrArg batch ((eq_ix2 k).trans (congrArg₂ (fun a b => ix2 (n0 := 1024) (n1 := 64) a b) e0 h1))
    · show 1024 * ((j 0).val / 1024) + (pos (ix1 (rowEnv j))).toNat = (j 0).val
      omega
  · rw [if_neg h]
    refine Routing.scatter_set_miss _ buffer idx batch j fun k hk => h ?_
    obtain ⟨h0, h1⟩ := (hlands k).1 hk
    have hp := hpos (ix1 (k 0))
    have e0 : k 0 = rowEnv j := Fin.ext (by show (k 0).val = (j 0).val / 1024; omega)
    rw [← e0]
    omega

/-! ## The run -/

variable {F : FTy → Type} [FloatOps F]

/-- The reference, from any memory whose environment words count 0, 1, 2, … and whose positions are below 1024, ends with the enqueued
    buffer, the advanced positions, the advanced sizes, and its arguments as they were. -/
theorem reference_values (m : (ℓ : Loc nD τ sig) → Buf (Elt F) ℓ) (ρ : Dev nD → PrngReg)
    (hids : ∀ (c : Dev nD) (e : Fin 1024), m ((c.tc : Thread nD τ).loc main_arg1) (ix1 e) = BitVec.ofNat 32 e.val)
    (hpos : ∀ (c : Dev nD) j, (m ((c.tc : Thread nD τ).loc main_arg3) j : BitVec 32).toNat < 1024) :
    θ_run defs (onTc (τ := τ) (main (F := F))) ⟨m, fun _ => 0, ρ⟩ fun r => ∀ c : Dev nD,
      r.2.mem ((c.tc : Thread nD τ).loc main_v16) = enqueued (m ((c.tc : Thread nD τ).loc main_arg0))
          (m ((c.tc : Thread nD τ).loc main_arg2)) (m ((c.tc : Thread nD τ).loc main_arg3))
      ∧ r.2.mem ((c.tc : Thread nD τ).loc main_v26) = (fun j => nextPos (m ((c.tc : Thread nD τ).loc main_arg3) j))
      ∧ r.2.mem ((c.tc : Thread nD τ).loc main_v44) = (fun j => nextSize (m ((c.tc : Thread nD τ).loc main_arg4) j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.ReferenceIdeal.Value.run (F := F) m ρ)
  obtain ⟨h0, h1, h2, hargs⟩ := h c
  refine ⟨h0.trans ?_, h1.trans ?_, h2.trans ?_, hargs⟩
  · refine put_rows _ _ _ (hpos c) _ fun e => ?_
    have hw := take_ids (hids c) (m ((c.tc : Thread nD τ).loc main_arg3))
    have hf : ((addi (muli (m ((c.tc : Thread nD τ).loc main_arg1)) (broadcastInDim S1024 ![] bcast_S_S1024 (constantI S_ 32 1024#32)))
        (Host.gather gather_S1024_S1024x1_S1024_n_0_n_n_0_1_1 (m ((c.tc : Thread nD τ).loc main_arg3))
          (column 1024#32 (m ((c.tc : Thread nD τ).loc main_arg1)))) : IVec S1024 32) (ix1 e)).toNat
        = 1024 * e.val + (m ((c.tc : Thread nD τ).loc main_arg3) (ix1 e) : BitVec 32).toNat := by
      rw [hw]
      refine Eq.trans ?_ (flat_word e.isLt (hpos c (ix1 e)))
      exact congrArg (fun t : BitVec 32 => (t * 1024#32 + m ((c.tc : Thread nD τ).loc main_arg3) (ix1 e)).toNat) (hids c e)
    have he := e.isLt
    have hp := hpos c (ix1 e)
    refine (congrArg BitVec.toInt (column_at 1048576#32 _ e (by rw [hf]; omega))).trans ?_
    rw [BitVec.toInt_eq_toNat_of_lt (by rw [hf]; omega), hf]
  · refine (put_ids (hids c) _ _).trans (funext fun j => ?_)
    refine Eq.trans ?_ (floorRem_next (hpos c j))
    have hw := take_ids (hids c) (m ((c.tc : Thread nD τ).loc main_arg3))
    exact congrArg (fun t : IVec S1024 32 => floorRem (t j + 1#32)) hw
  · refine (put_ids (hids c) _ _).trans (funext fun j => ?_)
    have hw := take_ids (hids c) (m ((c.tc : Thread nD τ).loc main_arg4))
    exact congrArg (fun t : IVec S1024 32 => nextSize (t j)) hw

end Cert.Enqueue

end
-- ==== Proof.Results.lean ====
/- What the idealized kernel leaves in its three results: the output windows' arrays after every write-back, and the host lines after the
   region, as functions of the argument arrays. -/
module

public import proofs.«01_k».proof.Proof.Frames
public import proofs.«01_k».proof.Proof.Spec
public import Idealize.ShloMosaic.Lib.Pipeline.Value
public import Idealize.ShloMosaic.Lib.StableHlo.Run

@[expose] public section

set_option maxRecDepth 16384

noncomputable section

namespace Cert.Enqueue

open Cert.KernelIdeal Cert.KernelIdeal.Gen Cert.KernelIdeal.Kit
open Idealize.ShloMosaic Idealize.ShloMosaic.TcCoe Idealize.SL.Sem Idealize.ShloMosaic.StableHlo
open Idealize.ShloMosaic.ValueIdx (ix1 ix2)

variable {F : FTy → Type} [FloatOps F]
variable (m : (ℓ : Loc nD τ sig) → Buf (Elt F) ℓ)

/-! ## The arrays the windows are over, at the region's entry -/

/-- An argument array of the launch. -/
abbrev argAt (c : Dev nD) (b : Ref sig .tc) : Buf (Elt F) ((c : Thread nD τ).loc b) := m ((c : Thread nD τ).loc b)

/-- The region finds the batch transposed. -/
theorem V_v0 (c : Dev nD) : V m c main_v0 = transpose S64x1024 [1, 0] (argAt m c main_arg0) transposes_S1024x64_S64x1024_1_0 := by
  show StableHlo.after (List.flatten [hostOps0]) _ (Proc.devRef .tc main_v0) = _
  simp only [hostOps0, List.flatten_cons, List.flatten_nil, List.append_nil]
  after_results
/-- The region finds the buffer transposed. -/
theorem V_v1 (c : Dev nD) : V m c main_v1 = transpose S64x1048576 [1, 0] (argAt m c main_arg2) transposes_S1048576x64_S64x1048576_1_0 := by
  show StableHlo.after (List.flatten [hostOps0]) _ (Proc.devRef .tc main_v1) = _
  simp only [hostOps0, List.flatten_cons, List.flatten_nil, List.append_nil]
  after_results
/-- The region finds the positions as 8 rows of 128. -/
theorem V_v2 (c : Dev nD) : V m c main_v2 = shapeCast S8x128 (argAt m c main_arg3) shapeCasts_S1024_S8x128 := by
  show StableHlo.after (List.flatten [hostOps0]) _ (Proc.devRef .tc main_v2) = _
  simp only [hostOps0, List.flatten_cons, List.flatten_nil, List.append_nil]
  after_results
  rfl
/-- The region finds the sizes as 8 rows of 128. -/
theorem V_v3 (c : Dev nD) : V m c main_v3 = shapeCast S8x128 (argAt m c main_arg4) shapeCasts_S1024_S8x128 := by
  show StableHlo.after (List.flatten [hostOps0]) _ (Proc.devRef .tc main_v3) = _
  simp only [hostOps0, List.flatten_cons, List.flatten_nil, List.append_nil]
  after_results
  rfl

/-! ## The windows' blocks inside their arrays -/

/-- A chunk's number as the word of an index map. -/
theorem chunk_toNat (i : grid0.Coords) : (BitVec.ofNat 32 (i 0).val).toNat = (i 0).val := by
  have h : (i 0).val < 32 := (i 0).isLt
  rw [BitVec.toNat_ofNat]; omega

/-- Every chunk is the coordinate of a grid point. -/
theorem exists_point (k : Fin 32) : ∃ t : Fin grid0.N, (grid0.coords t 0).val = k.val := by
  revert k; decide

/-- Column `y` of chunk `k`'s block in the transposed buffer. -/
def ringCol (k : Fin 32) (y : S64x32768.Idx) : S64x1048576.Idx :=
  ix2 (n0 := 64) (n1 := 1048576) (y 0) ⟨32768 * k.val + (y 1).val, by have h : (y 1).val < 32768 := (y 1).isLt; omega⟩

variable (hO : Ok m)

/-- The transposed buffer's window at point `t` is the chunk's columns. -/
theorem emb1 (t : Fin (cfgM m hO).N) (y : S64x32768.Idx) :
    (((cfgM m hO).win 1).blk t).view.emb y = ringCol (grid0.coords t 0) y := by
  refine funext fun (a : Fin 2) => Fin.ext ?_
  refine (Pipeline.Window.rect_emb_val ((cfgM m hO).win 1) t y a).trans ?_
  match a with
  | 0 => show 0 * 64 + (y 0).val = (y 0).val; omega
  | 1 =>
    show (BitVec.ofNat 32 (grid0.coords t 0).val).toNat * 32768 + (y 1).val = 32768 * (grid0.coords t 0).val + (y 1).val
    rw [chunk_toNat]; omega

/-- The output's window likewise. -/
theorem emb4 (t : Fin (cfgM m hO).N) (y : S64x32768.Idx) :
    (((cfgM m hO).win 4).blk t).view.emb y = ringCol (grid0.coords t 0) y := by
  refine funext fun (a : Fin 2) => Fin.ext ?_
  refine (Pipeline.Window.rect_emb_val ((cfgM m hO).win 4) t y a).trans ?_
  match a with
  | 0 => show 0 * 64 + (y 0).val = (y 0).val; omega
  | 1 =>
    show (BitVec.ofNat 32 (grid0.coords t 0).val).toNat * 32768 + (y 1).val = 32768 * (grid0.coords t 0).val + (y 1).val
    rw [chunk_toNat]; omega

/-- The batch's window is the whole array at every point, -/
theorem emb0 (t : Fin (cfgM m hO).N) (y : S64x1024.Idx) : (((cfgM m hO).win 0).blk t).view.emb y = y :=
  funext fun (a : Fin 2) => Fin.ext (Pipeline.Window.rect_emb_val_of_index_zero ((cfgM m hO).win 0) t a (by revert a; exact Fin.forall_fin_two.2 ⟨rfl, rfl⟩) y)
/-- so is the positions', -/
theorem emb2 (t : Fin (cfgM m hO).N) (y : S8x128.Idx) : (((cfgM m hO).win 2).blk t).view.emb y = y :=
  funext fun (a : Fin 2) => Fin.ext (Pipeline.Window.rect_emb_val_of_index_zero ((cfgM m hO).win 2) t a (by revert a; exact Fin.forall_fin_two.2 ⟨rfl, rfl⟩) y)
/-- the sizes', -/
theorem emb3 (t : Fin (cfgM m hO).N) (y : S8x128.Idx) : (((cfgM m hO).win 3).blk t).view.emb y = y :=
  funext fun (a : Fin 2) => Fin.ext (Pipeline.Window.rect_emb_val_of_index_zero ((cfgM m hO).win 3) t a (by revert a; exact Fin.forall_fin_two.2 ⟨rfl, rfl⟩) y)
/-- the next positions' -/
theorem emb5 (t : Fin (cfgM m hO).N) (y : S8x128.Idx) : (((cfgM m hO).win 5).blk t).view.emb y = y :=
  funext fun (a : Fin 2) => Fin.ext (Pipeline.Window.rect_emb_val_of_index_zero ((cfgM m hO).win 5) t a (by revert a; exact Fin.forall_fin_two.2 ⟨rfl, rfl⟩) y)
/-- and the next sizes'. -/
theorem emb6 (t : Fin (cfgM m hO).N) (y : S8x128.Idx) : (((cfgM m hO).win 6).blk t).view.emb y = y :=
  funext fun (a : Fin 2) => Fin.ext (Pipeline.Window.rect_emb_val_of_index_zero ((cfgM m hO).win 6) t a (by revert a; exact Fin.forall_fin_two.2 ⟨rfl, rfl⟩) y)

/-- The input blocks, element by element. -/
theorem iblk0_apply (c : Dev nD) (t : Fin (cfgM m hO).N) (y : S64x1024.Idx) :
    iblk m hO c 0 t y = argAt m c main_arg0 (ix2 (n0 := 1024) (n1 := 64) (y 1) (y 0)) := by
  show V m c main_v0 ((((cfgM m hO).win 0).blk t).view.emb y) = _
  rw [emb0 m hO t y, V_v0]
  exact transpose_apply _ _ _ _ _ fun b => by match b with | 0 => rfl | 1 => rfl
/-- An entry of a grid point's buffer block is the buffer's entry at the block's place in the ring. -/
theorem iblk1_apply (c : Dev nD) (t : Fin (cfgM m hO).N) (y : S64x32768.Idx) :
    iblk m hO c 1 t y = argAt m c main_arg2 (ix2 (n0 := 1048576) (n1 := 64) (ringCol (grid0.coords t 0) y 1) (y 0)) := by
  show V m c main_v1 ((((cfgM m hO).win 1).blk t).view.emb y) = _
  rw [emb1 m hO t y, V_v1]
  exact transpose_apply _ _ _ _ _ fun b => by match b with | 0 => rfl | 1 => rfl

/-! ## The first output's array -/

/-- The enqueued buffer, transposed: what the first output window's array ends at. -/
def ringT (c : Dev nD) : S64x1048576.Idx → Elt F .f32 := fun i =>
  enqueued (argAt m c main_arg0) (argAt m c main_arg2) (argAt m c main_arg3) (ix2 (n0 := 1048576) (n1 := 64) (i 1) (i 0))

/-- After every write-back the first output array is the enqueued buffer, transposed. -/
theorem arr4 (c : Dev nD) : (dats m hO 0 c).arrAt 4 (cfgM m hO).N = ringT m c := by
  refine Pipeline.Dat.arrAt_eq_of_cover (dats m hO 0 c) 4 (ringT m c) (fun t _ => ?_) (fun (i : S64x1048576.Idx) => ?_)
  · refine funext fun (y : S64x32768.Idx) => ?_
    show (dats m hO 0 c).after 4 t y = ringT m c ((((cfgM m hO).win 4).blk t).view.emb y)
    rw [emb4 m hO t y, after0_4]
    obtain rfl : c = 0 := Subsingleton.elim _ _
    have hk : (grid0.coords t 0).val < 32 := (grid0.coords t 0).isLt
    have h1 : (y 1).val < 32768 := (y 1).isLt
    have he : rowEnv (ix2 (n0 := 1048576) (n1 := 64) (ringCol (grid0.coords t 0) y 1) (y 0)) = envAt (grid0.coords t 0) y :=
      Fin.ext (by show (32768 * (grid0.coords t 0).val + (y 1).val) / 1024 = 32 * (grid0.coords t 0).val + (y 1).val / 1024; omega)
    have hm : (32768 * (grid0.coords t 0).val + (y 1).val) % 1024 = (y 1).val % 1024 := by omega
    show (if (y 1).val / 1024 < 32 ∧ (y 1).val % 1024 = posOf (posTbl m) (envAt (grid0.coords t 0) y) then
        iblk m hO 0 0 t (ix2 (n0 := 64) (n1 := 1024) (y 0) (envAt (grid0.coords t 0) y)) else iblk m hO 0 1 t y)
      = if (32768 * (grid0.coords t 0).val + (y 1).val) % 1024
            = (argAt m 0 main_arg3 (ix1 (rowEnv (ix2 (n0 := 1048576) (n1 := 64) (ringCol (grid0.coords t 0) y 1) (y 0)))) : BitVec 32).toNat then
          argAt m 0 main_arg0 (ix2 (n0 := 1024) (n1 := 64) (rowEnv (ix2 (n0 := 1048576) (n1 := 64) (ringCol (grid0.coords t 0) y 1) (y 0))) (y 0))
        else argAt m 0 main_arg2 (ix2 (n0 := 1048576) (n1 := 64) (ringCol (grid0.coords t 0) y 1) (y 0))
    rw [he, hm, posTbl_eq, iblk0_apply, iblk1_apply]
    have hlt : (y 1).val / 1024 < 32 := by omega
    simp only [hlt, true_and]
    rfl
  · have h1 : (i 1).val < 1048576 := (i 1).isLt
    obtain ⟨t, ht⟩ := exists_point ⟨(i 1).val / 32768, by omega⟩
    refine ⟨t, flush0_4 _ t, ?_⟩
    have e : (((cfgM m hO).win 4).blk t).view.emb (ix2 (n0 := 64) (n1 := 32768) (i 0) ⟨(i 1).val % 32768, by omega⟩) = i := by
      rw [emb4 m hO t]
      refine funext fun a => Fin.ext ?_
      match a with
      | 0 => rfl
      | 1 =>
        show 32768 * (grid0.coords t 0).val + (i 1).val % 32768 = (i 1).val
        rw [ht]
        show 32768 * ((i 1).val / 32768) + (i 1).val % 32768 = (i 1).val
        omega
    exact e ▸ (((cfgM m hO).win 4).blk t).view.emb_mem_set _

/-! ## The other two outputs' arrays -/

/-- The last grid point. -/
theorem last_point : ∃ t : Fin grid0.N, t.val % 32 = 31 := by decide

/-- The body's next positions, entry by entry. -/
theorem pay45_apply (x : Vec F S8x128 .i32) (y : S8x128.Idx) : k0_pay45 x y = nextPos (x y) := by
  show Scalar.select (IntOp.cmpi .eq (IntOp.addi (shapeCast S8x128 x _ y) 1#32) 1024#32) 0#32 (IntOp.addi (shapeCast S8x128 x _ y) 1#32) = _
  rw [shapeCast_self]
  unfold nextPos
  by_cases h : (x y : BitVec 32) + 1#32 = 1024#32
  · rw [if_pos h]
    show (if BitVec.ofBool ((x y : BitVec 32) + 1#32 == 1024#32) = 1#1 then 0#32 else (x y : BitVec 32) + 1#32) = 0#32
    rw [h]; rfl
  · rw [if_neg h]
    show (if BitVec.ofBool ((x y : BitVec 32) + 1#32 == 1024#32) = 1#1 then 0#32 else (x y : BitVec 32) + 1#32) = (x y : BitVec 32) + 1#32
    rw [beq_false_of_ne h]; rfl

/-- The body's next sizes, entry by entry. -/
theorem pay46_apply (x : Vec F S8x128 .i32) (y : S8x128.Idx) : k0_pay46 x y = nextSize (x y) := by
  show IntOp.minsi (IntOp.addi (shapeCast S8x128 x _ y) 1#32) 1024#32 = _
  rw [shapeCast_self]; rfl

/-- After every write-back the second output array is the advanced positions. -/
theorem arr5 (c : Dev nD) : (dats m hO 0 c).arrAt 5 (cfgM m hO).N = fun y => nextPos (V m c main_v2 y) := by
  refine Pipeline.Dat.arrAt_eq_of_cover (dats m hO 0 c) 5 (fun y => nextPos (V m c main_v2 y)) (fun t _ => ?_) (fun (i : S8x128.Idx) => ?_)
  · refine funext fun (y : S8x128.Idx) => ?_
    show (dats m hO 0 c).after 5 t y = nextPos (V m c main_v2 ((((cfgM m hO).win 5).blk t).view.emb y))
    rw [emb5 m hO t y, after0_5]
    refine (pay45_apply (F := F) (iblk m hO c 2 t) y).trans (congrArg nextPos ?_)
    show V m c main_v2 ((((cfgM m hO).win 2).blk t).view.emb y) = _
    rw [emb2 m hO t y]
  · obtain ⟨t, ht⟩ := last_point
    exact ⟨t, (flush0_5 _ t).2 ht, (emb5 m hO t i) ▸ (((cfgM m hO).win 5).blk t).view.emb_mem_set _⟩

/-- After every write-back the third output array is the advanced sizes. -/
theorem arr6 (c : Dev nD) : (dats m hO 0 c).arrAt 6 (cfgM m hO).N = fun y => nextSize (V m c main_v3 y) := by
  refine Pipeline.Dat.arrAt_eq_of_cover (dats m hO 0 c) 6 (fun y => nextSize (V m c main_v3 y)) (fun t _ => ?_) (fun (i : S8x128.Idx) => ?_)
  · refine funext fun (y : S8x128.Idx) => ?_
    show (dats m hO 0 c).after 6 t y = nextSize (V m c main_v3 ((((cfgM m hO).win 6).blk t).view.emb y))
    rw [emb6 m hO t y, after0_6]
    refine (pay46_apply (F := F) (iblk m hO c 3 t) y).trans (congrArg nextSize ?_)
    show V m c main_v3 ((((cfgM m hO).win 3).blk t).view.emb y) = _
    rw [emb3 m hO t y]
  · obtain ⟨t, ht⟩ := last_point
    exact ⟨t, (flush0_6 _ t).2 ht, (emb6 m hO t i) ▸ (((cfgM m hO).win 6).blk t).view.emb_mem_set _⟩

/-! ## The results -/

/-- The contents at the region's exit: the output windows' arrays at what the run leaves in them. -/
abbrev exitV (c : Dev nD) : Valuation τ sig (Elt F) :=
  Pipeline.withArrays spec0 c (V0 m c) fun w => (dats m hO 0 c).arrAt w (cfgM m hO).N

/-- The windows' arrays are pairwise different. -/
theorem arrRef_inj : Function.Injective (Pipeline.arrRef spec0) := by decide

/-- The host lines after the region find the first array so. -/
theorem exit4 (c : Dev nD) : exitV m hO c (Proc.devRef .tc main_v4_0) = ringT m c :=
  (Pipeline.withArrays_arr spec0 arrRef_inj c (V0 m c) _ 4).trans (arr4 m hO c)
/-- They find the second array so. -/
theorem exit5 (c : Dev nD) : exitV m hO c (Proc.devRef .tc main_v4_1) = fun y => nextPos (V m c main_v2 y) :=
  (Pipeline.withArrays_arr spec0 arrRef_inj c (V0 m c) _ 5).trans (arr5 m hO c)
/-- They find the third array so. -/
theorem exit6 (c : Dev nD) : exitV m hO c (Proc.devRef .tc main_v4_2) = fun y => nextSize (V m c main_v3 y) :=
  (Pipeline.withArrays_arr spec0 arrRef_inj c (V0 m c) _ 6).trans (arr6 m hO c)

/-- A function applied entry by entry between a reshape and the reshape back is the function applied entry by entry. -/
theorem map_between_reshapes {α β : Type} (f : α → β) (x : S1024.Idx → α) :
    shapeCast S1024 (fun y => f (shapeCast S8x128 x shapeCasts_S1024_S8x128 y)) shapeCasts_S8x128_S1024 = fun j => f (x j) := by
  have e : (fun y => f (shapeCast S8x128 x shapeCasts_S1024_S8x128 y)) = shapeCast S8x128 (fun j => f (x j)) shapeCasts_S1024_S8x128 := rfl
  rw [e, shapeCast_shapeCast]

/-- The first result: the buffer with the new rows written. -/
theorem result0 (c : Dev nD) : Pipeline.afterTail pcfgs (fun _ => adm m hO) (dats m hO) 0 (V0 m) [hostOps1] c main_v5
    = enqueued (argAt m c main_arg0) (argAt m c main_arg2) (argAt m c main_arg3) := by
  show StableHlo.after (List.flatten [hostOps1]) (exitV m hO c) (Proc.devRef .tc main_v5) = _
  simp only [hostOps1, List.flatten_cons, List.flatten_nil, List.append_nil]
  after_results
  rw [exit4]
  refine funext fun (j : S1048576x64.Idx) => ?_
  refine (transpose_apply _ _ _ _ (ix2 (n0 := 64) (n1 := 1048576) (j 1) (j 0)) fun b => by match b with | 0 => rfl | 1 => rfl).trans ?_
  exact congrArg (enqueued _ _ _) (ValueIdx.eq_ix2 (n0 := 1048576) (n1 := 64) j).symm

/-- The second result: every position advanced. -/
theorem result1 (c : Dev nD) : Pipeline.afterTail pcfgs (fun _ => adm m hO) (dats m hO) 0 (V0 m) [hostOps1] c main_v6
    = fun j => nextPos (argAt m c main_arg3 j) := by
  show StableHlo.after (List.flatten [hostOps1]) (exitV m hO c) (Proc.devRef .tc main_v6) = _
  simp only [hostOps1, List.flatten_cons, List.flatten_nil, List.append_nil]
  after_results
  rw [exit5, V_v2]
  exact map_between_reshapes nextPos _

/-- The third result: every size advanced. -/
theorem result2 (c : Dev nD) : Pipeline.afterTail pcfgs (fun _ => adm m hO) (dats m hO) 0 (V0 m) [hostOps1] c main_v7
    = fun j => nextSize (argAt m c main_arg4 j) := by
  show StableHlo.after (List.flatten [hostOps1]) (exitV m hO c) (Proc.devRef .tc main_v7) = _
  simp only [hostOps1, List.flatten_cons, List.flatten_nil, List.append_nil]
  after_results
  rw [exit6, V_v3]
  exact map_between_reshapes nextSize _

end Cert.Enqueue

end
-- ==== Proof.Equation.lean ====
/- Kernel and reference end with the same three arrays: each with the enqueue of its arguments. -/
module

public import proofs.«01_k».proof.Proof.Reference
public import proofs.«01_k».proof.Proof.Results
public import proofs.«01_k».proof.Defs

@[expose] public section

noncomputable section

namespace Cert.Enqueue

open Idealize.ShloMosaic Idealize.ShloMosaic.ValueIdx Idealize.SL.Sem

/-! ## The kernel's run -/

section kernel

open Cert.KernelIdeal Cert.KernelIdeal.Gen Cert.KernelIdeal.Kit

/-- The kernel, from any memory the precondition holds of, ends with the enqueued buffer, the advanced positions, the advanced sizes, and
    its arguments as they were. -/
theorem kernel_values (m : (ℓ : Loc nD τ sig) → Buf (Elt Ideal) ℓ) (ρ : Dev nD → PrngReg) (h : Pre_KernelIdeal m) :
    θ_run (defs (F := Ideal)) (onTc (τ := τ) (main (F := Ideal))) ⟨m, fun _ => 0, ρ⟩ fun r => ∀ c : Dev nD,
      r.2.mem ((c.tc : Thread nD τ).loc main_v5) = enqueued (m ((c.tc : Thread nD τ).loc main_arg0))
          (m ((c.tc : Thread nD τ).loc main_arg2)) (m ((c.tc : Thread nD τ).loc main_arg3))
      ∧ r.2.mem ((c.tc : Thread nD τ).loc main_v6) = (fun j => nextPos (m ((c.tc : Thread nD τ).loc main_arg3) j))
      ∧ r.2.mem ((c.tc : Thread nD τ).loc main_v7) = (fun j => nextSize (m ((c.tc : Thread nD τ).loc main_arg4) j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ q c =>
    ⟨((q.1 c).2 main_v5 (by decide : main_v5 ∈ Pipeline.restRefs sig spec0)).trans (result0 m trivial c),
      ((q.1 c).2 main_v6 (by decide : main_v6 ∈ Pipeline.restRefs sig spec0)).trans (result1 m trivial c),
      ((q.1 c).2 main_v7 (by decide : main_v7 ∈ Pipeline.restRefs sig spec0)).trans (result2 m trivial c),
      args_kept m trivial q.1 c⟩) (run_main m ρ trivial (posOk_of_pre m h))

end kernel

/-! ## The reference's frame -/

section reference

open Cert.ReferenceIdeal Cert.ReferenceIdeal.Gen

/-- The reference, from any memory, leaves its arguments as they were; it declares no counter, so all are zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems (by decide) r.2⟩)
    (Cert.ReferenceIdeal.Value.run (F := Ideal) m ρ)

end reference

/-! ## The equation -/

/-- From memories that agree on the arguments and satisfy the precondition, both programs end with the enqueue of those arguments. -/
theorem same_results : algebraic_KernelIdeal_ReferenceIdeal := by
  intro m g m' g' hpre hargs
  have hids : ∀ (c : Dev Cert.ReferenceIdeal.nD) (e : Fin 1024),
      m' ((c.tc : Thread Cert.ReferenceIdeal.nD Cert.ReferenceIdeal.τ).loc Cert.ReferenceIdeal.main_arg1) (ix1 e) = BitVec.ofNat 32 e.val :=
    fun c e => (congrFun (hargs c).2.1 (ix1 e)).trans ((of_in_range (hpre c)).1 e)
  have hpos : ∀ (c : Dev Cert.ReferenceIdeal.nD) j,
      (m' ((c.tc : Thread Cert.ReferenceIdeal.nD Cert.ReferenceIdeal.τ).loc Cert.ReferenceIdeal.main_arg3) j : BitVec 32).toNat < 1024 :=
    fun c j => (congrArg BitVec.toNat (congrFun (hargs c).2.2.2.1 j)).trans_lt ((of_in_range (hpre c)).2 j)
  refine ⟨_, _, _, kernel_values m g hpre, (θ_run _ _ _).mono (fun r h c => ?_) (reference_values m' g' hids hpos)⟩
  obtain ⟨h0, h1, h2, hkept⟩ := h c
  obtain ⟨a0, -, a2, a3, a4⟩ := hargs c
  refine ⟨h0.trans ?_, h1.trans ?_, h2.trans ?_, hkept⟩
  · exact congr (congrArg₂ (fun (x : SBatch.Idx → Ideal .f32) (y : SRing.Idx → Ideal .f32) (z : SEnv.Idx → BitVec 32) => enqueued x y z) a0 a2) a3
  · exact congrArg (fun (z : SEnv.Idx → BitVec 32) j => nextPos (z j)) a3
  · exact congrArg (fun (z : SEnv.Idx → BitVec 32) j => nextSize (z j)) a4

end Cert.Enqueue

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Equation

@[expose] public section

noncomputable section

namespace Cert.Proof

open Idealize.ShloMosaic Idealize.SL.Sem

/-- Everything claimed: the compiled program, the idealized program and the reference terminate with their arguments kept and every
    counter at zero; the idealization rewrote nothing; kernel and reference end with the same three arrays. -/
theorem claim : Cert.Claim :=
  ⟨Cert.Kernel.Gen.facts, Cert.KernelIdeal.Gen.facts, Cert.ReferenceIdeal.Gen.facts, Cert.Pre_in_range.Gen.facts,
    Cert.Enqueue.frame_compiled,
    Cert.Enqueue.frame_idealized,
    fun m ρ _ => Cert.Enqueue.reference_frame m ρ,
    fun m ρ _ => Cert.Enqueue.reference_frame m ρ,
    trivial,
    Cert.Enqueue.same_results⟩

end Cert.Proof

end
